-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "dt" .f32 0x3C76603E#32 ((2 / 133 : ℝ) : EReal)
  ∧ IdealRules.named_const.Statement Cert.KernelIdeal.κ "half_dt" .f32 0x3BF6603E#32 ((1 / 133 : ℝ) : EReal)
  ∧ IdealRules.named_const.Statement Cert.KernelIdeal.κ "inv_65535" .f32 0x37800080#32 ((1 / 65535 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8388608x1 : Shape := ⟨2, ![8388608, 1]⟩
abbrev S64x1 : Shape := ⟨2, ![64, 1]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S8388608x1 : S_.BroadcastsInDim S8388608x1 (![] : Fin 0 → Fin S8388608x1.rank)

variable [Facts]

def fn {F : FTy → Type} [FloatOps F] (main_arg0 : FVec F S8388608x1 .f32) (main_arg1 : FVec F S64x1 .f32) (main_arg2 : FVec F S64 .f32) (main_arg3 : FVec F S64x64 .f32) (main_arg4 : FVec F S64 .f32) (main_arg5 : FVec F S1x64 .f32) (main_arg6 : FVec F S1 .f32) (main_arg7 : FVec F S_ .f32) (main_arg8 : FVec F S_ .f32) : IVec S8388608x1 1 :=
  let main_v0 : FVec F S8388608x1 .f32 := Host.absf main_arg0
  let main_cst : FVec F S_ .f32 := constant S_ .f32 0x7F800000#32
  let main_v1 : FVec F S8388608x1 .f32 := broadcastInDim S8388608x1 ![] bcast_S_S8388608x1 main_cst
  let main_v2 : IVec S8388608x1 1 := cmpf .olt main_v0 main_v1
  let main_cst_0 : FVec F S_ .f32 := constant S_ .f32 0x7F800000#32
  let main_v3 : IVec S_ 1 := cmpf .olt main_arg7 main_cst_0
  let main_v4 : IVec S8388608x1 1 := broadcastInDim S8388608x1 ![] bcast_S_S8388608x1 main_v3
  let main_v5 : IVec S8388608x1 1 := andi main_v2 main_v4
  main_v5
-- ==== Kernel.lean ====
abbrev S8388608x1 : Shape := ⟨2, ![8388608, 1]⟩
abbrev S64x1 : Shape := ⟨2, ![64, 1]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩
abbrev S65536x128 : Shape := ⟨2, ![65536, 128]⟩
abbrev S2 : Shape := ⟨1, ![2]⟩
abbrev S1x1 : Shape := ⟨2, ![1, 1]⟩
abbrev S8192x128 : Shape := ⟨2, ![8192, 128]⟩
abbrev S8x8192x128 : Shape := ⟨3, ![8, 8192, 128]⟩
abbrev S2x8x128 : Shape := ⟨3, ![2, 8, 128]⟩
abbrev S4x8x128 : Shape := ⟨3, ![4, 8, 128]⟩
abbrev S4 : Shape := ⟨1, ![4]⟩
abbrev S64x512 : Shape := ⟨2, ![64, 512]⟩
abbrev S1x512 : Shape := ⟨2, ![1, 512]⟩
abbrev S512x512 : Shape := ⟨2, ![512, 512]⟩
abbrev S1x1x512 : Shape := ⟨3, ![1, 1, 512]⟩
abbrev S1x1x1 : Shape := ⟨3, ![1, 1, 1]⟩
abbrev S1x128 : Shape := ⟨2, ![1, 128]⟩
abbrev S8x128 : Shape := ⟨2, ![8, 128]⟩
abbrev S1x8x128 : Shape := ⟨3, ![1, 8, 128]⟩
abbrev S8x128x1 : Shape := ⟨3, ![8, 128, 1]⟩
abbrev S1x8192x128 : Shape := ⟨3, ![1, 8192, 128]⟩

abbrev nBuf : Space → Nat
  | .hbm => 18
  | .vmem => 13
  | .smem => 3
  | _ => 0

abbrev bufTy : (tb : Table) → Fin (tcTables nBuf tb) → BufTy
  | .hbm, ⟨0, _⟩ => ⟨S8388608x1, .f32⟩
  | .hbm, ⟨1, _⟩ => ⟨S64x1, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S_, .f32⟩
  | .hbm, ⟨8, _⟩ => ⟨S_, .f32⟩
  | .hbm, ⟨9, _⟩ => ⟨S65536x128, .f32⟩
  | .hbm, ⟨10, _⟩ => ⟨S1, .f32⟩
  | .hbm, ⟨11, _⟩ => ⟨S1, .f32⟩
  | .hbm, ⟨12, _⟩ => ⟨S2, .f32⟩
  | .hbm, ⟨13, _⟩ => ⟨S64x1, .f32⟩
  | .hbm, ⟨14, _⟩ => ⟨S64x1, .f32⟩
  | .hbm, ⟨15, _⟩ => ⟨S1x1, .f32⟩
  | .hbm, ⟨16, _⟩ => ⟨S65536x128, .f32⟩
  | .hbm, ⟨17, _⟩ => ⟨S8388608x1, .f32⟩
  | .local _ .vmem, ⟨0, _⟩ => ⟨S64x1, .f32⟩
  | .local _ .vmem, ⟨1, _⟩ => ⟨S64x1, .f32⟩
  | .local _ .vmem, ⟨2, _⟩ => ⟨S64x64, .f32⟩
  | .local _ .vmem, ⟨3, _⟩ => ⟨S64x1, .f32⟩
  | .local _ .vmem, ⟨4, _⟩ => ⟨S1x64, .f32⟩
  | .local _ .vmem, ⟨5, _⟩ => ⟨S1x1, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8x8192x128, .f32⟩
  | .local _ .vmem, ⟨11, _⟩ => ⟨S2x8x128, .f32⟩
  | .local _ .vmem, ⟨12, _⟩ => ⟨S4x8x128, .i32⟩
  | .local _ .smem, ⟨0, _⟩ => ⟨S2, .f32⟩
  | .local _ .smem, ⟨1, _⟩ => ⟨S2, .f32⟩
  | .local _ .smem, ⟨2, _⟩ => ⟨S4, .f32⟩
  | _, _ => ⟨S8388608x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch3 : Ref sig .tc := ⟨.vmem, 12, rfl⟩
abbrev cc0_stg0_0 : Ref sig .tc := ⟨.smem, 0, rfl⟩
abbrev cc0_scratch2 : Ref sig .tc := ⟨.smem, 1, rfl⟩
abbrev cc0_scratch4 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

@[reducible] def k0_t1_loop : Scf.Loop 32 :=
  let c0_i32_23 : BitVec 32 := 0#32
  let c512_i32 : BitVec 32 := 512#32
  let v32 : BitVec 32 := Scalar.addi c0_i32_23 c512_i32
  let c1_i32_24 : BitVec 32 := 1#32
  ⟨c0_i32_23, v32, c1_i32_24⟩
def k0_off1 (k0_t1 : Fin k0_t1_loop.trips) (c0_i32_38 : BitVec 32) : Fin 2 → Nat :=
  let c2_i32 : BitVec 32 := 2#32
  let c0_i32_23 : BitVec 32 := 0#32
  let c1_i32_24 : BitVec 32 := 1#32
  let arg16 : BitVec 32 := Scf.iv c0_i32_23 c1_i32_24 k0_t1
  let v48 : BitVec 32 := Scalar.muli c2_i32 arg16
  let v49 : BitVec 32 := Scalar.addi v48 c0_i32_38
  let c8_i32 : BitVec 32 := 8#32
  let v50 : BitVec 32 := Scalar.muli v49 c8_i32
  let v51 : Index := Scalar.indexCast v50
  let c0_39 : Index := 0#32
  ![v51.toNat, 0]
def k0_off2 (i : grid0.Coords) (k0_t1 : Fin k0_t1_loop.trips) (c0_i32_38 : BitVec 32) : Fin 3 → Nat :=
  let arg1 : BitVec 32 := BitVec.ofNat 32 (i 1).val
  let v129 : Index := Scalar.indexCast arg1
  let c2_i32 : BitVec 32 := 2#32
  let c0_i32_23 : BitVec 32 := 0#32
  let c1_i32_24 : BitVec 32 := 1#32
  let arg16 : BitVec 32 := Scf.iv c0_i32_23 c1_i32_24 k0_t1
  let v48 : BitVec 32 := Scalar.muli c2_i32 arg16
  let v49 : BitVec 32 := Scalar.addi v48 c0_i32_38
  let c8_i32_55 : BitVec 32 := 8#32
  let v128 : BitVec 32 := Scalar.muli v49 c8_i32_55
  let v130 : Index := Scalar.indexCast v128
  let c0_56 : Index := 0#32
  ![v129.toNat, v130.toNat, 0]
def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k0_off3 (i : grid0.Coords) : Fin 3 → Nat :=
  let arg1 : BitVec 32 := BitVec.ofNat 32 (i 1).val
  let v16 : Index := Scalar.indexCast arg1
  let c0 : Index := 0#32
  let c0_8 : Index := 0#32
  ![v16.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "dt" => some ((2 / 133 : ℝ) : EReal)
  | "half_dt" => some ((1 / 133 : ℝ) : EReal)
  | "inv_65535" => some ((1 / 65535 : ℝ) : EReal)
  | _ => none
-- ==== ReferenceIdeal.lean ====
abbrev S8388608x1 : Shape := ⟨2, ![8388608, 1]⟩
abbrev S64x1 : Shape := ⟨2, ![64, 1]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩
abbrev S399 : Shape := ⟨1, ![399]⟩
abbrev S400 : Shape := ⟨1, ![400]⟩
abbrev S400x1 : Shape := ⟨2, ![400, 1]⟩
abbrev S400x64 : Shape := ⟨2, ![400, 64]⟩
abbrev S1x1 : Shape := ⟨2, ![1, 1]⟩
abbrev S8388608 : Shape := ⟨1, ![8388608]⟩

abbrev nBuf : Space → Nat
  | .hbm => 260
  | .vmem => 0
  | .smem => 0
  | _ => 0

abbrev hbmTy0_0 (i : Nat) : BufTy := match i % 128 with
  | 0 => ⟨S8388608x1, .f32⟩
  | 1 => ⟨S64x1, .f32⟩
  | 2 => ⟨S64, .f32⟩
  | 3 => ⟨S64x64, .f32⟩
  | 4 => ⟨S64, .f32⟩
  | 5 => ⟨S1x64, .f32⟩
  | 6 => ⟨S1, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S399, .f32⟩
  | 20 => ⟨S_, .f32⟩
  | 21 => ⟨S399, .f32⟩
  | 22 => ⟨S399, .f32⟩
  | 23 => ⟨S1, .f32⟩
  | 24 => ⟨S_, .f32⟩
  | 25 => ⟨S399, .f32⟩
  | 26 => ⟨S399, .f32⟩
  | 27 => ⟨S399, .f32⟩
  | 28 => ⟨S399, .f32⟩
  | 29 => ⟨S1, .f32⟩
  | 30 => ⟨S399, .f32⟩
  | 31 => ⟨S399, .f32⟩
  | 32 => ⟨S399, .f32⟩
  | 33 => ⟨S1, .f32⟩
  | 34 => ⟨S400, .f32⟩
  | 35 => ⟨S400x1, .f32⟩
  | 36 => ⟨S1x64, .f32⟩
  | 37 => ⟨S400x64, .f32⟩
  | 38 => ⟨S1x64, .f32⟩
  | 39 => ⟨S400x64, .f32⟩
  | 40 => ⟨S400x64, .f32⟩
  | 41 => ⟨S400x64, .f32⟩
  | 42 => ⟨S64x64, .f32⟩
  | 43 => ⟨S400x64, .f32⟩
  | 44 => ⟨S1x64, .f32⟩
  | 45 => ⟨S400x64, .f32⟩
  | 46 => ⟨S400x64, .f32⟩
  | 47 => ⟨S400x64, .f32⟩
  | 48 => ⟨S64x1, .f32⟩
  | 49 => ⟨S400x1, .f32⟩
  | 50 => ⟨S1x1, .f32⟩
  | 51 => ⟨S400x1, .f32⟩
  | 52 => ⟨S400x1, .f32⟩
  | 53 => ⟨S400, .f32⟩
  | 54 => ⟨S_, .f32⟩
  | 55 => ⟨S_, .f32⟩
  | 56 => ⟨S_, .f32⟩
  | 57 => ⟨S400, .f32⟩
  | 58 => ⟨S400, .f32⟩
  | 59 => ⟨S_, .f32⟩
  | 60 => ⟨S400, .f32⟩
  | 61 => ⟨S400, .f32⟩
  | 62 => ⟨S400, .f32⟩
  | 63 => ⟨S399, .f32⟩
  | 64 => ⟨S399, .f32⟩
  | 65 => ⟨S399, .f32⟩
  | 66 => ⟨S_, .f32⟩
  | 67 => ⟨S399, .f32⟩
  | 68 => ⟨S399, .f32⟩
  | 69 => ⟨S399, .f32⟩
  | 70 => ⟨S399, .f32⟩
  | 71 => ⟨S_, .f32⟩
  | 72 => ⟨S_, .f32⟩
  | 73 => ⟨S399, .f32⟩
  | 74 => ⟨S_, .f32⟩
  | 75 => ⟨S1, .f32⟩
  | 76 => ⟨S400, .f32⟩
  | 77 => ⟨S400, .f32⟩
  | 78 => ⟨S400, .f32⟩
  | 79 => ⟨S400, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S400, .f32⟩
  | 94 => ⟨S400, .f32⟩
  | 95 => ⟨S400, .f32⟩
  | 96 => ⟨S400, .f32⟩
  | 97 => ⟨S_, .f32⟩
  | 98 => ⟨S400, .f32⟩
  | 99 => ⟨S400, .f32⟩
  | 100 => ⟨S400, .f32⟩
  | 101 => ⟨S400, .f32⟩
  | 102 => ⟨S400, .f32⟩
  | 103 => ⟨S400, .f32⟩
  | 104 => ⟨S400, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S400, .f32⟩
  | 119 => ⟨S400, .f32⟩
  | 120 => ⟨S400, .f32⟩
  | 121 => ⟨S400, .f32⟩
  | 122 => ⟨S_, .f32⟩
  | 123 => ⟨S400, .f32⟩
  | 124 => ⟨S400, .f32⟩
  | 125 => ⟨S400, .f32⟩
  | 126 => ⟨S400, .f32⟩
  | 127 => ⟨S400, .f32⟩
  | _ => ⟨S8388608x1, .f32⟩

abbrev hbmTy0_1 (i : Nat) : BufTy := match i % 128 with
  | 0 => ⟨S400, .f32⟩
  | 1 => ⟨S400, .f32⟩
  | 2 => ⟨S400, .f32⟩
  | 3 => ⟨S400, .f32⟩
  | 4 => ⟨S8388608, .f32⟩
  | 5 => ⟨S_, .f32⟩
  | 6 => ⟨S8388608, .f32⟩
  | 7 => ⟨S8388608, .f32⟩
  | 8 => ⟨S8388608, .f32⟩
  | 9 => ⟨S8388608, .f32⟩
  | 10 => ⟨S8388608, .f32⟩
  | 11 => ⟨S8388608, .i32⟩
  | 12 => ⟨S_, .i32⟩
  | 13 => ⟨S_, .i32⟩
  | 14 => ⟨S_, .i32⟩
  | 15 => ⟨S8388608, .i32⟩
  | 16 => ⟨S8388608, .i32⟩
  | 17 => ⟨S_, .i32⟩
  | 18 => ⟨S8388608, .i32⟩
  | 19 => ⟨S8388608, .i32⟩
  | 20 => ⟨S8388608, .f32⟩
  | 21 => ⟨S8388608, .f32⟩
  | 22 => ⟨S_, .f32⟩
  | 23 => ⟨S_, .f32⟩
  | 24 => ⟨S_, .f32⟩
  | 25 => ⟨S8388608, .f32⟩
  | 26 => ⟨S8388608, .f32⟩
  | 27 => ⟨S_, .f32⟩
  | 28 => ⟨S8388608, .f32⟩
  | 29 => ⟨S8388608, .f32⟩
  | 30 => ⟨S_, .i32⟩
  | 31 => ⟨S8388608, .i32⟩
  | 32 => ⟨S8388608, .i1⟩
  | 33 => ⟨S_, .i32⟩
  | 34 => ⟨S8388608, .i32⟩
  | 35 => ⟨S8388608, .i32⟩
  | 36 => ⟨S8388608, .i32⟩
  | 37 => ⟨S8388608x1, .i32⟩
  | 38 => ⟨S8388608, .f32⟩
  | 39 => ⟨S_, .i32⟩
  | 40 => ⟨S8388608, .i32⟩
  | 41 => ⟨S8388608, .i1⟩
  | 42 => ⟨S_, .i32⟩
  | 43 => ⟨S8388608, .i32⟩
  | 44 => ⟨S8388608, .i32⟩
  | 45 => ⟨S8388608, .i32⟩
  | 46 => ⟨S8388608x1, .i32⟩
  | 47 => ⟨S8388608, .f32⟩
  | 48 => ⟨S8388608, .f32⟩
  | 49 => ⟨S8388608, .f32⟩
  | 50 => ⟨S8388608, .f32⟩
  | 51 => ⟨S8388608, .f32⟩
  | 52 => ⟨S1, .f32⟩
  | 53 => ⟨S_, .f32⟩
  | 54 => ⟨S_, .f32⟩
  | 55 => ⟨S8388608, .f32⟩
  | 56 => ⟨S8388608, .f32⟩
  | 57 => ⟨S1, .f32⟩
  | 58 => ⟨S_, .f32⟩
  | 59 => ⟨S8388608, .f32⟩
  | 60 => ⟨S8388608, .f32⟩
  | 61 => ⟨S8388608, .f32⟩
  | 62 => ⟨S8388608, .f32⟩
  | 63 => ⟨S1, .f32⟩
  | 64 => ⟨S_, .f32⟩
  | 65 => ⟨S_, .f32⟩
  | 66 => ⟨S8388608, .f32⟩
  | 67 => ⟨S8388608, .f32⟩
  | 68 => ⟨S1, .f32⟩
  | 69 => ⟨S_, .f32⟩
  | 70 => ⟨S8388608, .f32⟩
  | 71 => ⟨S8388608, .f32⟩
  | 72 => ⟨S8388608, .f32⟩
  | 73 => ⟨S8388608, .f32⟩
  | 74 => ⟨S_, .f32⟩
  | 75 => ⟨S8388608, .f32⟩
  | 76 => ⟨S8388608, .i1⟩
  | 77 => ⟨S_, .f32⟩
  | 78 => ⟨S8388608, .f32⟩
  | 79 => ⟨S8388608, .i1⟩
  | 80 => ⟨S8388608, .f32⟩
  | 81 => ⟨S8388608, .f32⟩
  | 82 => ⟨S8388608x1, .f32⟩
  | 83 => ⟨S_, .f32⟩
  | 84 => ⟨S_, .f32⟩
  | 85 => ⟨S_, .f32⟩
  | 86 => ⟨S_, .f32⟩
  | 87 => ⟨S_, .i32⟩
  | 88 => ⟨S_, .f32⟩
  | 89 => ⟨S_, .f32⟩
  | 90 => ⟨S1x1, .f32⟩
  | 91 => ⟨S_, .f32⟩
  | 92 => ⟨S1x1, .f32⟩
  | 93 => ⟨S1x1, .f32⟩
  | 94 => ⟨S8388608x1, .f32⟩
  | 95 => ⟨S8388608x1, .f32⟩
  | 96 => ⟨S8388608x1, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S8388608x1, .f32⟩
  | 112 => ⟨S8388608x1, .f32⟩
  | 113 => ⟨S8388608x1, .f32⟩
  | 114 => ⟨S8388608x1, .f32⟩
  | 115 => ⟨S_, .f32⟩
  | 116 => ⟨S_, .f32⟩
  | 117 => ⟨S_, .f32⟩
  | 118 => ⟨S_, .i1⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8388608x1, .f32⟩

abbrev hbmTy0_2 (i : Nat) : BufTy := match i % 128 with
  | 0 => ⟨S8388608x1, .f32⟩
  | 1 => ⟨S8388608x1, .f32⟩
  | 2 => ⟨S8388608x1, .f32⟩
  | 3 => ⟨S8388608x1, .f32⟩
  | _ => ⟨S8388608x1, .f32⟩

abbrev hbmTy (i : Nat) : BufTy := match i / 128 with
  | 0 => hbmTy0_0 i
  | 1 => hbmTy0_1 i
  | 2 => hbmTy0_2 i
  | _ => ⟨S8388608x1, .f32⟩

abbrev bufTy : (tb : Table) → Fin (tcTables nBuf tb) → BufTy
  | .hbm, ⟨i, _⟩ => hbmTy i
  | _, _ => ⟨S8388608x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_cst_1 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_3 : Ref sig .tc := ⟨.hbm, 54, rfl⟩
abbrev main_cst_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_5 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_call2_call0_cst : Ref sig .tc := ⟨.hbm, 71, rfl⟩
abbrev main_call2_call0_v0 : Ref sig .tc := ⟨.hbm, 72, rfl⟩
abbrev main_v30 : Ref sig .tc := ⟨.hbm, 73, rfl⟩
abbrev main_cst_6 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_7 : Ref sig .tc := ⟨.hbm, 80, rfl⟩
abbrev main_v36 : Ref sig .tc := ⟨.hbm, 81, rfl⟩
abbrev main_cst_8 : Ref sig .tc := ⟨.hbm, 82, rfl⟩
abbrev main_v37 : Ref sig .tc := ⟨.hbm, 83, rfl⟩
abbrev main_cst_9 : Ref sig .tc := ⟨.hbm, 84, rfl⟩
abbrev main_v38 : Ref sig .tc := ⟨.hbm, 85, rfl⟩
abbrev main_cst_10 : Ref sig .tc := ⟨.hbm, 86, rfl⟩
abbrev main_v39 : Ref sig .tc := ⟨.hbm, 87, rfl⟩
abbrev main_v40 : Ref sig .tc := ⟨.hbm, 88, rfl⟩
abbrev main_cst_11 : Ref sig .tc := ⟨.hbm, 89, rfl⟩
abbrev main_v41 : Ref sig .tc := ⟨.hbm, 90, rfl⟩
abbrev main_cst_12 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_13 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_cst_14 : Ref sig .tc := ⟨.hbm, 105, rfl⟩
abbrev main_v54 : Ref sig .tc := ⟨.hbm, 106, rfl⟩
abbrev main_cst_15 : Ref sig .tc := ⟨.hbm, 107, rfl⟩
abbrev main_v55 : Ref sig .tc := ⟨.hbm, 108, rfl⟩
abbrev main_cst_16 : Ref sig .tc := ⟨.hbm, 109, rfl⟩
abbrev main_v56 : Ref sig .tc := ⟨.hbm, 110, rfl⟩
abbrev main_cst_17 : Ref sig .tc := ⟨.hbm, 111, rfl⟩
abbrev main_v57 : Ref sig .tc := ⟨.hbm, 112, rfl⟩
abbrev main_v58 : Ref sig .tc := ⟨.hbm, 113, rfl⟩
abbrev main_cst_18 : Ref sig .tc := ⟨.hbm, 114, rfl⟩
abbrev main_v59 : Ref sig .tc := ⟨.hbm, 115, rfl⟩
abbrev main_cst_19 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_20 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_cst_21 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_c : Ref sig .tc := ⟨.hbm, 140, rfl⟩
abbrev main_c_22 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_cst_23 : Ref sig .tc := ⟨.hbm, 150, rfl⟩
abbrev main_cst_24 : Ref sig .tc := ⟨.hbm, 151, rfl⟩
abbrev main_call4_v0 : Ref sig .tc := ⟨.hbm, 152, rfl⟩
abbrev main_call4_v1 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_v84 : Ref sig .tc := ⟨.hbm, 157, rfl⟩
abbrev main_c_25 : Ref sig .tc := ⟨.hbm, 158, rfl⟩
abbrev main_v85 : Ref sig .tc := ⟨.hbm, 159, rfl⟩
abbrev main_v86 : Ref sig .tc := ⟨.hbm, 160, rfl⟩
abbrev main_c_26 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_c_27 : Ref sig .tc := ⟨.hbm, 167, rfl⟩
abbrev main_v92 : Ref sig .tc := ⟨.hbm, 168, rfl⟩
abbrev main_v93 : Ref sig .tc := ⟨.hbm, 169, rfl⟩
abbrev main_c_28 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_cst_29 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_cst_30 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_cst_31 : Ref sig .tc := ⟨.hbm, 202, rfl⟩
abbrev main_v123 : Ref sig .tc := ⟨.hbm, 203, rfl⟩
abbrev main_v124 : Ref sig .tc := ⟨.hbm, 204, rfl⟩
abbrev main_cst_32 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_cst_33 : Ref sig .tc := ⟨.hbm, 211, rfl⟩
abbrev main_v130 : Ref sig .tc := ⟨.hbm, 212, rfl⟩
abbrev main_cst_34 : Ref sig .tc := ⟨.hbm, 213, rfl⟩
abbrev main_v131 : Ref sig .tc := ⟨.hbm, 214, rfl⟩
abbrev main_c_35 : Ref sig .tc := ⟨.hbm, 215, rfl⟩
abbrev main_call7_call0_cst : Ref sig .tc := ⟨.hbm, 216, rfl⟩
abbrev main_call7_call0_v0 : Ref sig .tc := ⟨.hbm, 217, rfl⟩
abbrev main_call7_call0_v1 : Ref sig .tc := ⟨.hbm, 218, rfl⟩
abbrev main_call7_call0_cst_0 : Ref sig .tc := ⟨.hbm, 219, rfl⟩
abbrev main_call7_call0_v2 : Ref sig .tc := ⟨.hbm, 220, rfl⟩
abbrev main_call7_call0_v3 : Ref sig .tc := ⟨.hbm, 221, rfl⟩
abbrev main_call7_call0_v4 : Ref sig .tc := ⟨.hbm, 222, rfl⟩
abbrev main_call7_call0_v5 : Ref sig .tc := ⟨.hbm, 223, rfl⟩
abbrev main_call7_call0_v6 : Ref sig .tc := ⟨.hbm, 224, rfl⟩
abbrev main_call7_call0_v7 : Ref sig .tc := ⟨.hbm, 225, rfl⟩
abbrev main_call7_call0_cst_1 : Ref sig .tc := ⟨.hbm, 226, rfl⟩
abbrev main_call7_call0_v8 : Ref sig .tc := ⟨.hbm, 227, rfl⟩
abbrev main_call7_call0_cst_2 : Ref sig .tc := ⟨.hbm, 228, rfl⟩
abbrev main_call7_call0_v9 : Ref sig .tc := ⟨.hbm, 229, rfl⟩
abbrev main_call7_call0_v10 : Ref sig .tc := ⟨.hbm, 230, rfl⟩
abbrev main_call7_call0_cst_3 : Ref sig .tc := ⟨.hbm, 231, rfl⟩
abbrev main_call7_call0_v11 : Ref sig .tc := ⟨.hbm, 232, rfl⟩
abbrev main_call7_call0_cst_4 : Ref sig .tc := ⟨.hbm, 233, rfl⟩
abbrev main_call7_call0_call0_v0 : Ref sig .tc := ⟨.hbm, 234, rfl⟩
abbrev main_call7_v0 : Ref sig .tc := ⟨.hbm, 235, rfl⟩
abbrev main_v132 : Ref sig .tc := ⟨.hbm, 236, rfl⟩
abbrev main_cst_36 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_call8_cst : Ref sig .tc := ⟨.hbm, 243, rfl⟩
abbrev main_call8_v0 : Ref sig .tc := ⟨.hbm, 244, rfl⟩
abbrev main_call8_v1 : Ref sig .tc := ⟨.hbm, 245, rfl⟩
abbrev main_call8_v2 : Ref sig .tc := ⟨.hbm, 246, rfl⟩
abbrev main_call8_v3 : Ref sig .tc := ⟨.hbm, 247, rfl⟩
abbrev main_call8_v4 : Ref sig .tc := ⟨.hbm, 248, rfl⟩
abbrev main_call8_v5 : Ref sig .tc := ⟨.hbm, 249, rfl⟩
abbrev main_call8_v6 : Ref sig .tc := ⟨.hbm, 250, rfl⟩
abbrev main_call8_v7 : Ref sig .tc := ⟨.hbm, 251, rfl⟩
abbrev main_call8_v8 : Ref sig .tc := ⟨.hbm, 252, rfl⟩
abbrev main_v138 : Ref sig .tc := ⟨.hbm, 253, rfl⟩
abbrev main_cst_37 : Ref sig .tc := ⟨.hbm, 254, rfl⟩
abbrev main_v139 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩

abbrev nD : Nat := 1
abbrev τ : Topo := Topo.v7x

variable {F : FTy → Type} [FloatOps F]
-- ==== Proof.KernelIdealLoop.lean ====
/- One pass of phase 0 over a block: what the loop over the chunks leaves in the stored
   interpolants and in the four running sums. -/
module

public import proofs.«01_k».proof.Proof.Gen.KernelIdeal.Frame
public import proofs.«01_k».proof.Proof.Gen.KernelIdeal.Loops
public import Idealize.ShloMosaic.Lib.WritesUnit
public import Idealize.ShloMosaic.Lib.WholeRead
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The interpolant of one chunk of eight rows: `v16 … v22` the four rows of packed codes, `v24 … v27` the offsets
and steps of the two code ranges. -/
def interp (v16 v18 v20 v22 : Vec F S1x8x128 .i32) (v24 v25 v26 v27 : Elt F .f32) (z : Vec F S8x128 .f32) : FVec F S8x128 .f32 :=
  k0_pay32 (k0_pay46 v18) (k0_pay47 v20) (k0_pay48 v22) v24 v25 v26 v27 (k0_pay22 z) (k0_pay24 z) (k0_pay26 z) (k0_pay27 z) (k0_pay28 z)
    (k0_pay29 (k0_pay45 v16) z) (k0_pay30 z) k0_pay31

/-- Chunk `n` of a block of inputs: its rows `8 n … 8 n + 7`. -/
def zchunk (x : Vec F S8192x128 .f32) (n : ℕ) : Vec F S8x128 .f32 :=
  fun y => x (ix2 ⟨(8 * n + (y 0).val) % 8192, Nat.mod_lt _ (by decide)⟩ (y 1))

/-- The four running sums after `k` pairs of chunks: even and odd chunks' values, even and odd chunks' squares. -/
def sums (v16 v18 v20 v22 : Vec F S1x8x128 .i32) (v24 v25 v26 v27 : Elt F .f32) (x : Vec F S8192x128 .f32)
    (init : FVec F S8x128 .f32 × FVec F S8x128 .f32 × FVec F S8x128 .f32 × FVec F S8x128 .f32) :
    ℕ → FVec F S8x128 .f32 × FVec F S8x128 .f32 × FVec F S8x128 .f32 × FVec F S8x128 .f32
  | 0 => init
  | k + 1 =>
    let a := sums v16 v18 v20 v22 v24 v25 v26 v27 x init k
    let e := interp v16 v18 v20 v22 v24 v25 v26 v27 (zchunk x (2 * k))
    let o := interp v16 v18 v20 v22 v24 v25 v26 v27 (zchunk x (2 * k + 1))
    (addf a.1 e, addf a.2.1 o, addf a.2.2.1 (mulf e e), addf a.2.2.2 (mulf o o))

theorem off1_eq : ∀ (k : Fin k0_t1_loop.trips) (r : Fin 2), k0_off1 k (BitVec.ofNat 32 r.val) = ![8 * (2 * k.val + r.val), 0] := by
  decide +kernel

theorem off2_eq : ∀ (i : Fin 8) (k : Fin k0_t1_loop.trips) (r : Fin 2),
    (![(BitVec.ofNat 32 i.val).toNat, (Scalar.indexCast (Scalar.muli (Scalar.addi (Scalar.muli 2#32 (Scf.iv 0#32 1#32 k)) (BitVec.ofNat 32 r.val)) 8#32)).toNat, 0] : Fin 3 → ℕ)
      = ![i.val, 8 * (2 * k.val + r.val), 0] := by
  decide +kernel

section Loop

variable (𝒱 : Variants) (c : Dev nD) (bd : Option 𝒱.V) (i : grid0.Coords) (arg2 : Memref sig .tc .smem S2 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x64 .f32) (harg5 : arg5.IsWhole) (arg6 : Memref sig .tc .vmem S64x1 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8x8192x128 .f32) (harg11 : arg11.IsWhole) (arg12 : Memref sig .tc .vmem S2x8x128 .f32) (harg12 : arg12.IsWhole) (arg13 : Memref sig .tc .smem S2 .f32) (harg13 : arg13.IsWhole) (arg14 : Memref sig .tc .vmem S4x8x128 .i32) (harg14 : arg14.IsWhole) (arg15 : Memref sig .tc .smem S4 .f32) (harg15 : arg15.IsWhole) (arg1 : BitVec 32) (k0_h2 : k0_cond2 i = 1#1)
  (v16 v18 v20 v22 : Vec F S1x8x128 .i32) (v24 v25 v26 v27 : Elt F .f32)

theorem tripL_eq (X : BufTy.Contents (Elt F) arg9.view.ty) (k : Fin k0_t1_loop.trips) (acc : FVec F S8x128 .f32 × FVec F S8x128 .f32 × FVec F S8x128 .f32 × FVec F S8x128 .f32) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 k0_h2 v16 v18 v20 v22 v24 v25 v26 v27 X k acc
      = [⟨Rect.unit (s := S8x8192x128) (k0_off2 i k 1#32) S1x8x128.size (k0_off2_inb i k k0_h2 1), shapeCast S1x8x128 (interp v16 v18 v20 v22 v24 v25 v26 v27 (View.readAt (Elt F) arg9.view (Rect.unit (s := S8192x128) (k0_off1 k 1#32) S8x128.size (k0_off1_inb i k k0_h2 1)).toLoadRect X)) shapeCasts_S8x128_S1x8x128⟩,
         ⟨Rect.unit (s := S8x8192x128) (k0_off2 i k 0#32) S1x8x128.size (k0_off2_inb i k k0_h2 0), shapeCast S1x8x128 (interp v16 v18 v20 v22 v24 v25 v26 v27 (View.readAt (Elt F) arg9.view (Rect.unit (s := S8192x128) (k0_off1 k 0#32) S8x128.size (k0_off1_inb i k k0_h2 0)).toLoadRect X)) shapeCasts_S8x128_S1x8x128⟩] := by
  unfold tripL_k0_t1 trip_k0_t1
  rfl

theorem tripR_eq (X : BufTy.Contents (Elt F) arg9.view.ty) (k : Fin k0_t1_loop.trips) (acc : FVec F S8x128 .f32 × FVec F S8x128 .f32 × FVec F S8x128 .f32 × FVec F S8x128 .f32) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 k0_h2 v16 v18 v20 v22 v24 v25 v26 v27 X k acc
      = (let e := interp v16 v18 v20 v22 v24 v25 v26 v27 (View.readAt (Elt F) arg9.view (Rect.unit (s := S8192x128) (k0_off1 k 0#32) S8x128.size (k0_off1_inb i k k0_h2 0)).toLoadRect X)
         let o := interp v16 v18 v20 v22 v24 v25 v26 v27 (View.readAt (Elt F) arg9.view (Rect.unit (s := S8192x128) (k0_off1 k 1#32) S8x128.size (k0_off1_inb i k k0_h2 1)).toLoadRect X)
         (addf acc.1 e, addf acc.2.1 o, addf acc.2.2.1 (mulf e e), addf acc.2.2.2 (mulf o o))) := by
  unfold tripR_k0_t1 trip_k0_t1
  rfl

theorem readAt_chunk (x : Vec F S8192x128 .f32) (k : Fin k0_t1_loop.trips) (r : Fin 2)
    (h : ∀ a, (k0_off1 k (BitVec.ofNat 32 r.val)) a + S8x128.size a ≤ S8192x128.size a) :
    View.readAt (Elt F) arg9.view (Rect.unit (s := S8192x128) (k0_off1 k (BitVec.ofNat 32 r.val)) S8x128.size h).toLoadRect (harg9.unread x)
      = zchunk x (2 * k.val + r.val) := by
  have hk : k.val < 512 := Nat.lt_of_lt_of_le k.isLt k0_t1_abs.2.1
  funext y
  rw [harg9.readAt_unread]
  unfold zchunk
  congr 1
  funext a
  apply Fin.ext
  have h0 : (y 0).val < 8 := (y 0).isLt
  have hr : r.val < 2 := r.isLt
  have e := off1_eq k r
  fin_cases a
  · show k0_off1 k (BitVec.ofNat 32 r.val) 0 + 1 * (y 0).val = (8 * (2 * k.val + r.val) + (y 0).val) % 8192
    have e' : k0_off1 k (BitVec.ofNat 32 r.val) 0 = 8 * (2 * k.val + r.val) := congrFun e 0
    omega
  · show k0_off1 k (BitVec.ofNat 32 r.val) 1 + 1 * (y 1).val = (y 1).val
    have e' : k0_off1 k (BitVec.ofNat 32 r.val) 1 = 0 := congrFun e 1
    omega

theorem st_sums (x : Vec F S8192x128 .f32) (init : FVec F S8x128 .f32 × FVec F S8x128 .f32 × FVec F S8x128 .f32 × FVec F S8x128 .f32) :
    ∀ k, k ≤ k0_t1_loop.trips → (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 k0_h2 v16 v18 v20 v22 v24 v25 v26 v27 (harg9.unread x) init k).1 = sums v16 v18 v20 v22 v24 v25 v26 v27 x init k
  | 0, _ => rfl
  | k + 1, hk => by
    have hk' : k < k0_t1_loop.trips := hk
    have e := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 k0_h2 v16 v18 v20 v22 v24 v25 v26 v27 (harg9.unread x) init ⟨k, hk'⟩
    rw [e]
    show tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 k0_h2 v16 v18 v20 v22 v24 v25 v26 v27 (harg9.unread x) ⟨k, hk'⟩ _ = _
    rw [tripR_eq, st_sums x init k (Nat.le_of_lt hk')]
    have e0 := readAt_chunk (F := F) arg9 harg9 x ⟨k, hk'⟩ 0 (k0_off1_inb i ⟨k, hk'⟩ k0_h2 0)
    have e1 := readAt_chunk (F := F) arg9 harg9 x ⟨k, hk'⟩ 1 (k0_off1_inb i ⟨k, hk'⟩ k0_h2 1)
    erw [e0, e1]
    rfl

theorem st_stored (x : Vec F S8192x128 .f32) (init : FVec F S8x128 .f32 × FVec F S8x128 .f32 × FVec F S8x128 .f32 × FVec F S8x128 .f32)
    (G : BufTy.Contents (Elt F) arg11.view.ty) (y : S8x8192x128.Idx) :
    ∀ k, k ≤ k0_t1_loop.trips → arg11.view.read (Elt F) (arg11.view.writes (Elt F) G (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 k0_h2 v16 v18 v20 v22 v24 v25 v26 v27 (harg9.unread x) init k).2) y
      = if (y 0).val = (i 1).val ∧ (y 1).val < 16 * k then
          interp v16 v18 v20 v22 v24 v25 v26 v27 (zchunk x ((y 1).val / 8)) (ix2 ⟨(y 1).val % 8, Nat.mod_lt _ (by decide)⟩ (y 2))
        else arg11.view.read (Elt F) G y
  | 0, _ => by
    rw [if_neg (by omega)]; rfl
  | k + 1, hk => by
    have hk' : k < k0_t1_loop.trips := hk
    have hk5 : k < 512 := Nat.lt_of_lt_of_le hk' k0_t1_abs.2.1
    have e := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 k0_h2 v16 v18 v20 v22 v24 v25 v26 v27 (harg9.unread x) init ⟨k, hk'⟩
    have e0 := readAt_chunk (F := F) arg9 harg9 x ⟨k, hk'⟩ 0 (k0_off1_inb i ⟨k, hk'⟩ k0_h2 0)
    have e1 := readAt_chunk (F := F) arg9 harg9 x ⟨k, hk'⟩ 1 (k0_off1_inb i ⟨k, hk'⟩ k0_h2 1)
    have o0 : k0_off2 i ⟨k, hk'⟩ 0#32 = ![(i 1).val, 8 * (2 * k), 0] := off2_eq (i 1) ⟨k, hk'⟩ 0
    have o1 : k0_off2 i ⟨k, hk'⟩ 1#32 = ![(i 1).val, 8 * (2 * k + 1), 0] := off2_eq (i 1) ⟨k, hk'⟩ 1
    have ih := st_stored x init G y k (Nat.le_of_lt hk')
    rw [e]
    show arg11.view.read (Elt F) (arg11.view.writes (Elt F) G (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 k0_h2 v16 v18 v20 v22 v24 v25 v26 v27 (harg9.unread x) ⟨k, hk'⟩ _ ++ _)) y = _
    rw [tripL_eq]
    erw [e0, e1]
    have hy0 : (y 0).val < 8 := (y 0).isLt
    have hy1 : (y 1).val < 8192 := (y 1).isLt
    have hy2 : (y 2).val < 128 := (y 2).isLt
    have hi : (i 1).val < 8 := (i 1).isLt
    by_cases hb : (y 0).val = (i 1).val
    swap
    · rw [if_neg (fun h => hb h.1)]
      rw [if_neg (fun h => hb h.1)] at ih
      rw [← ih]
      refine (View.read_writes_cons_unit_of_not_mem _ _ _ _ _ _ o1 0 ?_).trans (View.read_writes_cons_unit_of_not_mem _ _ _ _ _ _ o0 0 ?_)
      · show (y 0).val < (i 1).val ∨ (i 1).val + 1 ≤ (y 0).val
        omega
      · show (y 0).val < (i 1).val ∨ (i 1).val + 1 ≤ (y 0).val
        omega
    by_cases h1 : 8 * (2 * k + 1) ≤ (y 1).val
    · by_cases h2 : (y 1).val < 16 * (k + 1)
      · rw [if_pos ⟨hb, h2⟩]
        refine (View.read_writes_cons_unit_of_mem _ _ _ _ _ y (ix3 0 ⟨(y 1).val % 8, Nat.mod_lt _ (by decide)⟩ (y 2)) o1 ?_).trans ?_
        · intro a
          fin_cases a
          · show (y 0).val = (i 1).val + 0; omega
          · show (y 1).val = 8 * (2 * k + 1) + (y 1).val % 8; omega
          · show (y 2).val = 0 + (y 2).val; omega
        · have hq : (y 1).val / 8 = 2 * k + 1 := by omega
          rw [hq]
          pointwise
      · rw [if_neg (fun h => h2 h.2)]
        rw [if_neg (fun h => by omega)] at ih
        rw [← ih]
        refine (View.read_writes_cons_unit_of_not_mem _ _ _ _ _ _ o1 1 ?_).trans (View.read_writes_cons_unit_of_not_mem _ _ _ _ _ _ o0 1 ?_)
        · show (y 1).val < 8 * (2 * k + 1) ∨ 8 * (2 * k + 1) + 8 ≤ (y 1).val
          omega
        · show (y 1).val < 8 * (2 * k) ∨ 8 * (2 * k) + 8 ≤ (y 1).val
          omega
    · rw [if_pos ⟨hb, by omega⟩]
      refine (View.read_writes_cons_unit_of_not_mem _ _ _ _ _ _ o1 1 ?_).trans ?_
      · show (y 1).val < 8 * (2 * k + 1) ∨ 8 * (2 * k + 1) + 8 ≤ (y 1).val
        omega
      by_cases h3 : 8 * (2 * k) ≤ (y 1).val
      · refine (View.read_writes_cons_unit_of_mem _ _ _ _ _ y (ix3 0 ⟨(y 1).val % 8, Nat.mod_lt _ (by decide)⟩ (y 2)) o0 ?_).trans ?_
        · intro a
          fin_cases a
          · show (y 0).val = (i 1).val + 0; omega
          · show (y 1).val = 8 * (2 * k) + (y 1).val % 8; omega
          · show (y 2).val = 0 + (y 2).val; omega
        · have hq : (y 1).val / 8 = 2 * k + 0 := by omega
          rw [hq]
          pointwise
      · rw [if_pos ⟨hb, by omega⟩] at ih
        rw [← ih]
        refine (View.read_writes_cons_unit_of_not_mem _ _ _ _ _ _ o0 1 ?_)
        show (y 1).val < 8 * (2 * k) ∨ 8 * (2 * k) + 8 ≤ (y 1).val
        omega

end Loop

end Cert.KernelIdeal.Hand

end
-- ==== Proof.KernelIdealSpec.lean ====
/- What one grid point computes from what it finds: the packed table and its constants, the stored
   interpolants of a block, the running sums, the affine map and the output block. -/
module

public import proofs.«01_k».proof.Proof.KernelIdealLoop
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The word deciding whether the table is built: phase 0, block 0. -/
abbrev cond1 (i : grid0.Coords) : BitVec 1 := Scalar.cmpi .ne (Scalar.extui (Scalar.andi (Scalar.cmpi .eq (BitVec.ofNat 32 (i 0).val) 0#32) (Scalar.cmpi .eq (BitVec.ofNat 32 (i 1).val) 0#32))) 0#32

/-- The word deciding whether the affine map is computed: phase 1, block 0. -/
abbrev cond3 (i : grid0.Coords) : BitVec 1 := Scalar.cmpi .ne (Scalar.extui (Scalar.andi (Scalar.cmpi .eq (BitVec.ofNat 32 (i 0).val) 1#32) (Scalar.cmpi .eq (BitVec.ofNat 32 (i 1).val) 0#32))) 0#32

/-- Row `r` of the packed table. -/
def row (tab : Vec F S4x8x128 .i32) (r : Fin 4) : Vec F S1x8x128 .i32 := fun y => tab (ix3 r (y 1) (y 2))

/-- Slab `r` of the running sums. -/
def slab (acc : Vec F S2x8x128 .f32) (r : Fin 2) : Vec F S1x8x128 .f32 := fun y => acc (ix3 r (y 1) (y 2))

/-- The packed codes of the table's 512 lanes, from the table of slopes. -/
def codes (w : FVec F S1x512 .f32) : IVec S1x512 32 :=
  k0_pay17 (k0_pay11 w) (k0_pay13 w k0_pay7 k0_pay8) (k0_pay14 w) (k0_pay15 w) (k0_pay16 w k0_pay7 k0_pay8) (Scalar.ofBits .f32 0x3F800000#32)

/-- The stored table: four rows of 128 lanes, each over eight sublanes. -/
def tabV (w : FVec F S1x512 .f32) : Vec F S4x8x128 .i32 :=
  fun y => codes w (ix2 0 ⟨128 * (y 0).val + (y 2).val, by have h0 : (y 0).val < 4 := (y 0).isLt; have h2 : (y 2).val < 128 := (y 2).isLt; show _ < 512; omega⟩)

/-- The four stored constants: shifted offset and step of the first code range, offset and step of the second. -/
def cstV (w : FVec F S1x512 .f32) : Vec F S4 .f32 :=
  fun y => (![k0_pay2 (k0_pay12 w k0_pay7 k0_pay8) (k0_pay13 w k0_pay7 k0_pay8), k0_pay13 w k0_pay7 k0_pay8, k0_pay14 w, k0_pay15 w] : Fin 4 → F .f32) (y 0)

/-- The interpolants of a block. -/
def blkV (tab : Vec F S4x8x128 .i32) (cst : Vec F S4 .f32) (x : Vec F S8192x128 .f32) : Vec F S8192x128 .f32 :=
  fun y => interp (row tab 0) (row tab 1) (row tab 2) (row tab 3) (cst (ix1 0)) (cst (ix1 1)) (cst (ix1 2)) (cst (ix1 3))
    (zchunk x ((y 0).val / 8)) (ix2 ⟨(y 0).val % 8, Nat.mod_lt _ (by decide)⟩ (y 1))

/-- The four running sums over a block's 512 pairs of chunks. -/
def sumsV (tab : Vec F S4x8x128 .i32) (cst : Vec F S4 .f32) (x : Vec F S8192x128 .f32) :
    FVec F S8x128 .f32 × FVec F S8x128 .f32 × FVec F S8x128 .f32 × FVec F S8x128 .f32 :=
  sums (row tab 0) (row tab 1) (row tab 2) (row tab 3) (cst (ix1 0)) (cst (ix1 1)) (cst (ix1 2)) (cst (ix1 3)) x
    (k0_pay49, k0_pay50, k0_pay51, k0_pay52) k0_t1_loop.trips

/-- The stored interpolants after block `b` is written. -/
def fzStep (tab : Vec F S4x8x128 .i32) (cst : Vec F S4 .f32) (x : Vec F S8192x128 .f32) (b : ℕ) (fz : Vec F S8x8192x128 .f32) : Vec F S8x8192x128 .f32 :=
  fun y => if (y 0).val = b then blkV tab cst x (ix2 (y 1) (y 2)) else fz y

/-- The running sums of values and squares after one more block. -/
def accStep (tab : Vec F S4x8x128 .i32) (cst : Vec F S4 .f32) (x : Vec F S8192x128 .f32) (acc : Vec F S2x8x128 .f32) : Vec F S2x8x128 .f32 :=
  fun y => if (y 0).val = 0 then k0_pay57 (sumsV tab cst x).1 (sumsV tab cst x).2.1 (slab acc 0) (ix3 0 (y 1) (y 2))
    else k0_pay4 (sumsV tab cst x).2.2.1 (sumsV tab cst x).2.2.2 (slab acc 1) (ix3 0 (y 1) (y 2))

/-- The affine map's two numbers, from the finished sums and the two parameters. -/
def scV (acc : Vec F S2x8x128 .f32) (ab : Vec F S2 .f32) : Vec F S2 .f32 :=
  fun y => (![k0_pay59 (slab acc 0) (slab acc 1) (ab (ix1 0)), k0_pay60 (slab acc 0) (slab acc 1) (ab (ix1 0)) (ab (ix1 1))] : Fin 2 → F .f32) (y 0)

/-- Block `b` of the output. -/
def outV (fz : Vec F S8x8192x128 .f32) (sc : Vec F S2 .f32) (b : Fin 8) : Vec F S8192x128 .f32 :=
  k0_pay5 (fun y => fz (ix3 b (y 1) (y 2))) (sc (ix1 0)) (sc (ix1 1))

theorem row_read {arg14 : Memref sig .tc .vmem S4x8x128 .i32} (harg14 : arg14.IsWhole) (tab : Vec F S4x8x128 .i32) (r : Fin 4)
    (h : ∀ a, (![r.val, 0, 0] : Fin 3 → ℕ) a + S1x8x128.size a ≤ S4x8x128.size a) :
    View.readAt (Elt F) arg14.view (Rect.unit (s := S4x8x128) ![r.val, 0, 0] S1x8x128.size h).toLoadRect (harg14.unread tab) = row tab r := by
  funext y
  rw [harg14.readAt_unread]
  unfold row
  congr 1
  funext a
  apply Fin.ext
  have h0 : (y 0).val < 1 := (y 0).isLt
  fin_cases a
  · show r.val + 1 * (y 0).val = r.val
    omega
  · show 0 + 1 * (y 1).val = (y 1).val
    omega
  · show 0 + 1 * (y 2).val = (y 2).val
    omega

theorem slab_read {arg12 : Memref sig .tc .vmem S2x8x128 .f32} (harg12 : arg12.IsWhole) (acc : Vec F S2x8x128 .f32) (r : Fin 2)
    (h : ∀ a, (![r.val, 0, 0] : Fin 3 → ℕ) a + S1x8x128.size a ≤ S2x8x128.size a) :
    View.readAt (Elt F) arg12.view (Rect.unit (s := S2x8x128) ![r.val, 0, 0] S1x8x128.size h).toLoadRect (harg12.unread acc) = slab acc r := by
  funext y
  rw [harg12.readAt_unread]
  unfold slab
  congr 1
  funext a
  apply Fin.ext
  have h0 : (y 0).val < 1 := (y 0).isLt
  fin_cases a
  · show r.val + 1 * (y 0).val = r.val
    omega
  · show 0 + 1 * (y 1).val = (y 1).val
    omega
  · show 0 + 1 * (y 2).val = (y 2).val
    omega

theorem blk_read {arg11 : Memref sig .tc .vmem S8x8192x128 .f32} (harg11 : arg11.IsWhole) (fz : Vec F S8x8192x128 .f32) (b : Fin 8) (off : Fin 3 → ℕ)
    (h : ∀ a, off a + S1x8192x128.size a ≤ S8x8192x128.size a) (e : off = ![b.val, 0, 0]) :
    View.readAt (Elt F) arg11.view (Rect.unit (s := S8x8192x128) off S1x8192x128.size h).toLoadRect (harg11.unread fz)
      = fun y => fz (ix3 b (y 1) (y 2)) := by
  subst e
  funext y
  rw [harg11.readAt_unread]
  congr 1
  funext a
  apply Fin.ext
  have h0 : (y 0).val < 1 := (y 0).isLt
  fin_cases a
  · show b.val + 1 * (y 0).val = b.val
    omega
  · show 0 + 1 * (y 1).val = (y 1).val
    omega
  · show 0 + 1 * (y 2).val = (y 2).val
    omega

/-- Two slabs stored over anything. -/
theorem acc_stored (arg12 : Memref sig .tc .vmem S2x8x128 .f32) (G : BufTy.Contents (Elt F) arg12.view.ty) (p0 p1 : Vec F S1x8x128 .f32)
    (L : List (View.Piece (Elt F) S2x8x128 .f32)) :
    arg12.view.read (Elt F) (arg12.view.writes (Elt F) G (⟨Rect.unit (s := S2x8x128) ![1, 0, 0] S1x8x128.size inb_S2x8x128_S1x8x128_1_0_0, p1⟩
      :: ⟨Rect.unit (s := S2x8x128) ![0, 0, 0] S1x8x128.size inb_S2x8x128_S1x8x128_0_0_0, p0⟩ :: L))
      = fun y => if (y 0).val = 0 then p0 (ix3 0 (y 1) (y 2)) else p1 (ix3 0 (y 1) (y 2)) := by
  funext y
  have h0 : (y 0).val < 2 := (y 0).isLt
  by_cases h : (y 0).val = 0
  · rw [if_pos h]
    refine (View.read_writes_cons_unit_of_not_mem _ _ _ _ _ _ rfl 0 ?_).trans (View.read_writes_cons_unit_of_mem _ _ _ _ _ y (ix3 0 (y 1) (y 2)) rfl ?_)
    · show (y 0).val < 1 ∨ 1 + 1 ≤ (y 0).val
      omega
    · intro a
      fin_cases a
      · show (y 0).val = 0 + 0; omega
      · show (y 1).val = 0 + (y 1).val; omega
      · show (y 2).val = 0 + (y 2).val; omega
  · rw [if_neg h]
    refine (View.read_writes_cons_unit_of_mem _ _ _ _ _ y (ix3 0 (y 1) (y 2)) rfl ?_)
    intro a
    fin_cases a
    · show (y 0).val = 1 + 0; omega
    · show (y 1).val = 0 + (y 1).val; omega
    · show (y 2).val = 0 + (y 2).val; omega

/-- Four rows stored over anything. -/
theorem tab_stored (arg14 : Memref sig .tc .vmem S4x8x128 .i32) (G : BufTy.Contents (Elt F) arg14.view.ty) (p : Fin 4 → Vec F S1x8x128 .i32) :
    arg14.view.read (Elt F) (arg14.view.writes (Elt F) G [⟨Rect.unit (s := S4x8x128) ![3, 0, 0] S1x8x128.size inb_S4x8x128_S1x8x128_3_0_0, p 3⟩,
      ⟨Rect.unit (s := S4x8x128) ![2, 0, 0] S1x8x128.size inb_S4x8x128_S1x8x128_2_0_0, p 2⟩,
      ⟨Rect.unit (s := S4x8x128) ![1, 0, 0] S1x8x128.size inb_S4x8x128_S1x8x128_1_0_0, p 1⟩,
      ⟨Rect.unit (s := S4x8x128) ![0, 0, 0] S1x8x128.size inb_S4x8x128_S1x8x128_0_0_0, p 0⟩])
      = fun y => p (y 0) (ix3 0 (y 1) (y 2)) := by
  funext y
  have h0 : (y 0).val < 4 := (y 0).isLt
  rcases (by omega : (y 0).val = 0 ∨ (y 0).val = 1 ∨ (y 0).val = 2 ∨ (y 0).val = 3) with h | h | h | h
  · have e : y 0 = (⟨0, by decide⟩ : Fin 4) := Fin.ext h
    rw [e]
    refine (View.read_writes_cons_unit_of_not_mem _ _ _ _ _ _ rfl 0 ?_).trans <| (View.read_writes_cons_unit_of_not_mem _ _ _ _ _ _ rfl 0 ?_).trans <| (View.read_writes_cons_unit_of_not_mem _ _ _ _ _ _ rfl 0 ?_).trans <| (View.read_writes_cons_unit_of_mem _ _ _ _ _ y (ix3 0 (y 1) (y 2)) rfl ?_)
    · show (y 0).val < 3 ∨ 3 + 1 ≤ (y 0).val
      omega
    · show (y 0).val < 2 ∨ 2 + 1 ≤ (y 0).val
      omega
    · show (y 0).val < 1 ∨ 1 + 1 ≤ (y 0).val
      omega
    · intro a
      fin_cases a
      · show (y 0).val = 0 + 0; omega
      · show (y 1).val = 0 + (y 1).val; omega
      · show (y 2).val = 0 + (y 2).val; omega
  · have e : y 0 = (⟨1, by decide⟩ : Fin 4) := Fin.ext h
    rw [e]
    refine (View.read_writes_cons_unit_of_not_mem _ _ _ _ _ _ rfl 0 ?_).trans <| (View.read_writes_cons_unit_of_not_mem _ _ _ _ _ _ rfl 0 ?_).trans <| (View.read_writes_cons_unit_of_mem _ _ _ _ _ y (ix3 0 (y 1) (y 2)) rfl ?_)
    · show (y 0).val < 3 ∨ 3 + 1 ≤ (y 0).val
      omega
    · show (y 0).val < 2 ∨ 2 + 1 ≤ (y 0).val
      omega
    · intro a
      fin_cases a
      · show (y 0).val = 1 + 0; omega
      · show (y 1).val = 0 + (y 1).val; omega
      · show (y 2).val = 0 + (y 2).val; omega
  · have e : y 0 = (⟨2, by decide⟩ : Fin 4) := Fin.ext h
    rw [e]
    refine (View.read_writes_cons_unit_of_not_mem _ _ _ _ _ _ rfl 0 ?_).trans <| (View.read_writes_cons_unit_of_mem _ _ _ _ _ y (ix3 0 (y 1) (y 2)) rfl ?_)
    · show (y 0).val < 3 ∨ 3 + 1 ≤ (y 0).val
      omega
    · intro a
      fin_cases a
      · show (y 0).val = 2 + 0; omega
      · show (y 1).val = 0 + (y 1).val; omega
      · show (y 2).val = 0 + (y 2).val; omega
  · have e : y 0 = (⟨3, by decide⟩ : Fin 4) := Fin.ext h
    rw [e]
    refine (View.read_writes_cons_unit_of_mem _ _ _ _ _ y (ix3 0 (y 1) (y 2)) rfl ?_)
    · intro a
      fin_cases a
      · show (y 0).val = 3 + 0; omega
      · show (y 1).val = 0 + (y 1).val; omega
      · show (y 2).val = 0 + (y 2).val; omega

/-- 4 scalars stored over anything. -/
theorem cst_stored (arg15 : Memref sig .tc .smem S4 .f32) (G : BufTy.Contents (Elt F) arg15.view.ty) (p : Fin 4 → F .f32) :
    arg15.view.read (Elt F) (arg15.view.writes (Elt F) G [⟨Rect.unit (s := S4) ![3] S1.size inb_S4_S1_3, fun _ => p 3⟩, ⟨Rect.unit (s := S4) ![2] S1.size inb_S4_S1_2, fun _ => p 2⟩, ⟨Rect.unit (s := S4) ![1] S1.size inb_S4_S1_1, fun _ => p 1⟩, ⟨Rect.unit (s := S4) ![0] S1.size inb_S4_S1_0, fun _ => p 0⟩])
      = fun y => p (y 0) := by
  funext y
  have h0 : (y 0).val < 4 := (y 0).isLt
  rcases (by omega : (y 0).val = 0 ∨ (y 0).val = 1 ∨ (y 0).val = 2 ∨ (y 0).val = 3) with h | h | h | h
  · have e : y 0 = (⟨0, by decide⟩ : Fin 4) := Fin.ext h
    rw [e]
    refine (View.read_writes_cons_unit_of_not_mem _ _ _ _ _ _ rfl 0 ?_).trans <| (View.read_writes_cons_unit_of_not_mem _ _ _ _ _ _ rfl 0 ?_).trans <| (View.read_writes_cons_unit_of_not_mem _ _ _ _ _ _ rfl 0 ?_).trans <| (View.read_writes_cons_unit_of_mem _ _ _ _ _ y (ix1 0) rfl ?_)
    · show (y 0).val < 3 ∨ 3 + 1 ≤ (y 0).val
      omega
    · show (y 0).val < 2 ∨ 2 + 1 ≤ (y 0).val
      omega
    · show (y 0).val < 1 ∨ 1 + 1 ≤ (y 0).val
      omega
    · intro a
      fin_cases a
      show (y 0).val = 0 + 0; omega
  · have e : y 0 = (⟨1, by decide⟩ : Fin 4) := Fin.ext h
    rw [e]
    refine (View.read_writes_cons_unit_of_not_mem _ _ _ _ _ _ rfl 0 ?_).trans <| (View.read_writes_cons_unit_of_not_mem _ _ _ _ _ _ rfl 0 ?_).trans <| (View.read_writes_cons_unit_of_mem _ _ _ _ _ y (ix1 0) rfl ?_)
    · show (y 0).val < 3 ∨ 3 + 1 ≤ (y 0).val
      omega
    · show (y 0).val < 2 ∨ 2 + 1 ≤ (y 0).val
      omega
    · intro a
      fin_cases a
      show (y 0).val = 1 + 0; omega
  · have e : y 0 = (⟨2, by decide⟩ : Fin 4) := Fin.ext h
    rw [e]
    refine (View.read_writes_cons_unit_of_not_mem _ _ _ _ _ _ rfl 0 ?_).trans <| (View.read_writes_cons_unit_of_mem _ _ _ _ _ y (ix1 0) rfl ?_)
    · show (y 0).val < 3 ∨ 3 + 1 ≤ (y 0).val
      omega
    · intro a
      fin_cases a
      show (y 0).val = 2 + 0; omega
  · have e : y 0 = (⟨3, by decide⟩ : Fin 4) := Fin.ext h
    rw [e]
    refine (View.read_writes_cons_unit_of_mem _ _ _ _ _ y (ix1 0) rfl ?_)
    · intro a
      fin_cases a
      show (y 0).val = 3 + 0; omega

/-- 2 scalars stored over anything. -/
theorem sc_stored (arg15 : Memref sig .tc .smem S2 .f32) (G : BufTy.Contents (Elt F) arg15.view.ty) (p : Fin 2 → F .f32) :
    arg15.view.read (Elt F) (arg15.view.writes (Elt F) G [⟨Rect.unit (s := S2) ![1] S1.size inb_S2_S1_1, fun _ => p 1⟩, ⟨Rect.unit (s := S2) ![0] S1.size inb_S2_S1_0, fun _ => p 0⟩])
      = fun y => p (y 0) := by
  funext y
  have h0 : (y 0).val < 2 := (y 0).isLt
  rcases (by omega : (y 0).val = 0 ∨ (y 0).val = 1) with h | h
  · have e : y 0 = (⟨0, by decide⟩ : Fin 2) := Fin.ext h
    rw [e]
    refine (View.read_writes_cons_unit_of_not_mem _ _ _ _ _ _ rfl 0 ?_).trans <| (View.read_writes_cons_unit_of_mem _ _ _ _ _ y (ix1 0) rfl ?_)
    · show (y 0).val < 1 ∨ 1 + 1 ≤ (y 0).val
      omega
    · intro a
      fin_cases a
      show (y 0).val = 0 + 0; omega
  · have e : y 0 = (⟨1, by decide⟩ : Fin 2) := Fin.ext h
    rw [e]
    refine (View.read_writes_cons_unit_of_mem _ _ _ _ _ y (ix1 0) rfl ?_)
    · intro a
      fin_cases a
      show (y 0).val = 1 + 0; omega

/-- Row 0 as stored is the table's. -/
theorem tab_row0 (w : FVec F S1x512 .f32) (z : S1x8x128.Idx) : (k0_pay18 (k0_pay11 w) (k0_pay13 w k0_pay7 k0_pay8) (k0_pay14 w) (k0_pay15 w) (k0_pay16 w k0_pay7 k0_pay8) (Scalar.ofBits .f32 0x3F800000#32)) z = tabV w (ix3 0 (z 1) (z 2)) := by
  unfold tabV codes
  unfold k0_pay18
  generalize k0_pay17 (F := F) _ _ _ _ _ _ = C
  have h0 : (z 0).val < 1 := (z 0).isLt
  have h1 : (z 1).val < 8 := (z 1).isLt
  have h2 : (z 2).val < 128 := (z 2).isLt
  obtain ⟨a, b, c, rfl⟩ : ∃ (a : Fin 1) (b : Fin 8) (c : Fin 128), z = ix3 a b c := ⟨z 0, z 1, z 2, eq_ix3 z⟩
  dsimp only
  pointwise

/-- Row 1 as stored is the table's. -/
theorem tab_row1 (w : FVec F S1x512 .f32) (z : S1x8x128.Idx) : (k0_pay19 (k0_pay11 w) (k0_pay13 w k0_pay7 k0_pay8) (k0_pay14 w) (k0_pay15 w) (k0_pay16 w k0_pay7 k0_pay8) (Scalar.ofBits .f32 0x3F800000#32)) z = tabV w (ix3 1 (z 1) (z 2)) := by
  unfold tabV codes
  unfold k0_pay19
  generalize k0_pay17 (F := F) _ _ _ _ _ _ = C
  have h0 : (z 0).val < 1 := (z 0).isLt
  have h1 : (z 1).val < 8 := (z 1).isLt
  have h2 : (z 2).val < 128 := (z 2).isLt
  obtain ⟨a, b, c, rfl⟩ : ∃ (a : Fin 1) (b : Fin 8) (c : Fin 128), z = ix3 a b c := ⟨z 0, z 1, z 2, eq_ix3 z⟩
  dsimp only
  pointwise

/-- Row 2 as stored is the table's. -/
theorem tab_row2 (w : FVec F S1x512 .f32) (z : S1x8x128.Idx) : (k0_pay20 (k0_pay11 w) (k0_pay13 w k0_pay7 k0_pay8) (k0_pay14 w) (k0_pay15 w) (k0_pay16 w k0_pay7 k0_pay8) (Scalar.ofBits .f32 0x3F800000#32)) z = tabV w (ix3 2 (z 1) (z 2)) := by
  unfold tabV codes
  unfold k0_pay20
  generalize k0_pay17 (F := F) _ _ _ _ _ _ = C
  have h0 : (z 0).val < 1 := (z 0).isLt
  have h1 : (z 1).val < 8 := (z 1).isLt
  have h2 : (z 2).val < 128 := (z 2).isLt
  obtain ⟨a, b, c, rfl⟩ : ∃ (a : Fin 1) (b : Fin 8) (c : Fin 128), z = ix3 a b c := ⟨z 0, z 1, z 2, eq_ix3 z⟩
  dsimp only
  pointwise

/-- Row 3 as stored is the table's. -/
theorem tab_row3 (w : FVec F S1x512 .f32) (z : S1x8x128.Idx) : (k0_pay1 (k0_pay21 (k0_pay11 w) (k0_pay13 w k0_pay7 k0_pay8) (k0_pay14 w) (k0_pay15 w) (k0_pay16 w k0_pay7 k0_pay8) (Scalar.ofBits .f32 0x3F800000#32))) z = tabV w (ix3 3 (z 1) (z 2)) := by
  unfold tabV codes
  unfold k0_pay1 k0_pay21
  generalize k0_pay17 (F := F) _ _ _ _ _ _ = C
  have h0 : (z 0).val < 1 := (z 0).isLt
  have h1 : (z 1).val < 8 := (z 1).isLt
  have h2 : (z 2).val < 128 := (z 2).isLt
  obtain ⟨a, b, c, rfl⟩ : ∃ (a : Fin 1) (b : Fin 8) (c : Fin 128), z = ix3 a b c := ⟨z 0, z 1, z 2, eq_ix3 z⟩
  dsimp only
  pointwise

/-- The table as stored. -/
theorem tab_written (arg14 : Memref sig .tc .vmem S4x8x128 .i32) (G : BufTy.Contents (Elt F) arg14.view.ty) (w : FVec F S1x512 .f32) :
    arg14.view.read (Elt F) (arg14.view.writes (Elt F) G [⟨Rect.unit (s := S4x8x128) ![3, 0, 0] S1x8x128.size inb_S4x8x128_S1x8x128_3_0_0, k0_pay1 (k0_pay21 (k0_pay11 w) (k0_pay13 w k0_pay7 k0_pay8) (k0_pay14 w) (k0_pay15 w) (k0_pay16 w k0_pay7 k0_pay8) (Scalar.ofBits .f32 0x3F800000#32))⟩,
      ⟨Rect.unit (s := S4x8x128) ![2, 0, 0] S1x8x128.size inb_S4x8x128_S1x8x128_2_0_0, k0_pay20 (k0_pay11 w) (k0_pay13 w k0_pay7 k0_pay8) (k0_pay14 w) (k0_pay15 w) (k0_pay16 w k0_pay7 k0_pay8) (Scalar.ofBits .f32 0x3F800000#32)⟩,
      ⟨Rect.unit (s := S4x8x128) ![1, 0, 0] S1x8x128.size inb_S4x8x128_S1x8x128_1_0_0, k0_pay19 (k0_pay11 w) (k0_pay13 w k0_pay7 k0_pay8) (k0_pay14 w) (k0_pay15 w) (k0_pay16 w k0_pay7 k0_pay8) (Scalar.ofBits .f32 0x3F800000#32)⟩,
      ⟨Rect.unit (s := S4x8x128) ![0, 0, 0] S1x8x128.size inb_S4x8x128_S1x8x128_0_0_0, k0_pay18 (k0_pay11 w) (k0_pay13 w k0_pay7 k0_pay8) (k0_pay14 w) (k0_pay15 w) (k0_pay16 w k0_pay7 k0_pay8) (Scalar.ofBits .f32 0x3F800000#32)⟩]) = tabV w := by
  refine (tab_stored arg14 G ![k0_pay18 (k0_pay11 w) (k0_pay13 w k0_pay7 k0_pay8) (k0_pay14 w) (k0_pay15 w) (k0_pay16 w k0_pay7 k0_pay8) (Scalar.ofBits .f32 0x3F800000#32), k0_pay19 (k0_pay11 w) (k0_pay13 w k0_pay7 k0_pay8) (k0_pay14 w) (k0_pay15 w) (k0_pay16 w k0_pay7 k0_pay8) (Scalar.ofBits .f32 0x3F800000#32), k0_pay20 (k0_pay11 w) (k0_pay13 w k0_pay7 k0_pay8) (k0_pay14 w) (k0_pay15 w) (k0_pay16 w k0_pay7 k0_pay8) (Scalar.ofBits .f32 0x3F800000#32), k0_pay1 (k0_pay21 (k0_pay11 w) (k0_pay13 w k0_pay7 k0_pay8) (k0_pay14 w) (k0_pay15 w) (k0_pay16 w k0_pay7 k0_pay8) (Scalar.ofBits .f32 0x3F800000#32))]).trans ?_
  funext y
  have h0 : (y 0).val < 4 := (y 0).isLt
  obtain ⟨a, b, c, rfl⟩ : ∃ (a : Fin 4) (b : Fin 8) (c : Fin 128), y = ix3 a b c := ⟨y 0, y 1, y 2, eq_ix3 y⟩
  fin_cases a
  · exact tab_row0 w (ix3 0 b c)
  · exact tab_row1 w (ix3 0 b c)
  · exact tab_row2 w (ix3 0 b c)
  · exact tab_row3 w (ix3 0 b c)

section Pass

variable (𝒱 : Variants) (c : Dev nD) (bd : Option 𝒱.V) (i : grid0.Coords) (arg2 : Memref sig .tc .smem S2 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x64 .f32) (harg5 : arg5.IsWhole) (arg6 : Memref sig .tc .vmem S64x1 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8x8192x128 .f32) (harg11 : arg11.IsWhole) (arg12 : Memref sig .tc .vmem S2x8x128 .f32) (harg12 : arg12.IsWhole) (arg13 : Memref sig .tc .smem S2 .f32) (harg13 : arg13.IsWhole) (arg14 : Memref sig .tc .vmem S4x8x128 .i32) (harg14 : arg14.IsWhole) (arg15 : Memref sig .tc .smem S4 .f32) (harg15 : arg15.IsWhole) (arg1 : BitVec 32) (k0_h2 : k0_cond2 i = 1#1)
  (tab : Vec F S4x8x128 .i32) (cst : Vec F S4 .f32) (v16 v18 v20 v22 : Vec F S1x8x128 .i32) (v24 v25 v26 v27 : Elt F .f32)
  (e16 : v16 = row tab 0) (e18 : v18 = row tab 1) (e20 : v20 = row tab 2) (e22 : v22 = row tab 3) (e24 : v24 = cst (ix1 0)) (e25 : v25 = cst (ix1 1)) (e26 : v26 = cst (ix1 2)) (e27 : v27 = cst (ix1 3))

include e16 e18 e20 e22 e24 e25 e26 e27

/-- The whole loop's sums. -/
theorem loop_sums (x : Vec F S8192x128 .f32) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 k0_h2 v16 v18 v20 v22 v24 v25 v26 v27 (harg9.unread x) (k0_pay49, k0_pay50, k0_pay51, k0_pay52) (Scf.trips k0_t1_loop.lb k0_t1_loop.ub k0_t1_loop.st)).1 = sumsV tab cst x := by
  subst e16 e18 e20 e22 e24 e25 e26 e27
  exact st_sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 k0_h2 _ _ _ _ _ _ _ _ x _ _ (Nat.le_refl _)

/-- The whole loop's stores. -/
theorem loop_stores (x : Vec F S8192x128 .f32) (fz : Vec F S8x8192x128 .f32) :
    arg11.view.read (Elt F) (arg11.view.writes (Elt F) (harg11.unread fz)
      (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 k0_h2 v16 v18 v20 v22 v24 v25 v26 v27 (harg9.unread x) (k0_pay49, k0_pay50, k0_pay51, k0_pay52) (Scf.trips k0_t1_loop.lb k0_t1_loop.ub k0_t1_loop.st)).2) = fzStep tab cst x (i 1).val fz := by
  subst e16 e18 e20 e22 e24 e25 e26 e27
  funext y
  rw [st_stored 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 k0_h2 _ _ _ _ _ _ _ _ x _ _ y _ (Nat.le_refl _), harg11.read_unread]
  have ht : k0_t1_loop.trips = 512 := by decide
  have hy1 : (y 1).val < 8192 := (y 1).isLt
  unfold fzStep
  by_cases hb : (y 0).val = (i 1).val
  · rw [if_pos ⟨hb, by omega⟩, if_pos hb]; rfl
  · rw [if_neg (fun h => hb h.1), if_neg hb]

end Pass

/-- A scalar read of the constants. -/
theorem cst_read {arg15 : Memref sig .tc .smem S4 .f32} (harg15 : arg15.IsWhole) (cst : Vec F S4 .f32) (r : Fin 4)
    (h : ∀ a, (![r.val] : Fin 1 → ℕ) a + S1.size a ≤ S4.size a) (z : S1.Idx) :
    View.readAt (Elt F) arg15.view (Rect.unit (s := S4) ![r.val] S1.size h).toLoadRect (harg15.unread cst) z = cst (ix1 r) := by
  rw [harg15.readAt_unread]
  congr 1
  funext a
  apply Fin.ext
  have h0 : (z 0).val < 1 := (z 0).isLt
  fin_cases a
  show r.val + 1 * (z 0).val = r.val
  omega

/-- A scalar read of a pair. -/
theorem pair_read {arg13 : Memref sig .tc .smem S2 .f32} (harg13 : arg13.IsWhole) (sc : Vec F S2 .f32) (r : Fin 2)
    (h : ∀ a, (![r.val] : Fin 1 → ℕ) a + S1.size a ≤ S2.size a) (z : S1.Idx) :
    View.readAt (Elt F) arg13.view (Rect.unit (s := S2) ![r.val] S1.size h).toLoadRect (harg13.unread sc) z = sc (ix1 r) := by
  rw [harg13.readAt_unread]
  congr 1
  funext a
  apply Fin.ext
  have h0 : (z 0).val < 1 := (z 0).isLt
  fin_cases a
  show r.val + 1 * (z 0).val = r.val
  omega

/-- The first slab read back from cleared sums. -/
theorem acc_zero0 (arg12 : Memref sig .tc .vmem S2x8x128 .f32) :
    View.readAt (Elt F) arg12.view (Rect.unit (s := S2x8x128) ![0, 0, 0] S1x8x128.size inb_S2x8x128_S1x8x128_0_0_0).toLoadRect
      (arg12.view.writes (Elt F) arg12.view.junk [⟨Rect.unit (s := S2x8x128) ![0, 0, 0] S2x8x128.size inb_S2x8x128_S2x8x128_0_0_0, k0_pay3⟩]) = slab k0_pay3 0 := by
  funext y
  refine (View.read_writes_cons_unit_of_mem arg12.view _ _ _ _ _ (ix3 0 (y 1) (y 2)) rfl ?_)
  have h0 : (y 0).val < 1 := (y 0).isLt
  intro a
  fin_cases a
  · show 0 + 1 * (y 0).val = 0 + 0; omega
  · show 0 + 1 * (y 1).val = 0 + (y 1).val; omega
  · show 0 + 1 * (y 2).val = 0 + (y 2).val; omega

/-- The second slab read back from cleared sums, whatever went to the first. -/
theorem acc_zero1 (arg12 : Memref sig .tc .vmem S2x8x128 .f32) (p : Vec F S1x8x128 .f32) :
    View.readAt (Elt F) arg12.view (Rect.unit (s := S2x8x128) ![1, 0, 0] S1x8x128.size inb_S2x8x128_S1x8x128_1_0_0).toLoadRect
      (arg12.view.writes (Elt F) arg12.view.junk [⟨Rect.unit (s := S2x8x128) ![0, 0, 0] S1x8x128.size inb_S2x8x128_S1x8x128_0_0_0, p⟩,
        ⟨Rect.unit (s := S2x8x128) ![0, 0, 0] S2x8x128.size inb_S2x8x128_S2x8x128_0_0_0, k0_pay3⟩]) = slab k0_pay3 1 := by
  funext y
  have h0 : (y 0).val < 1 := (y 0).isLt
  refine (View.read_writes_cons_unit_of_not_mem arg12.view _ _ _ _ _ rfl 0 ?_).trans (View.read_writes_cons_unit_of_mem arg12.view _ _ _ _ _ (ix3 1 (y 1) (y 2)) rfl ?_)
  · show 1 + 1 * (y 0).val < 0 ∨ 0 + 1 ≤ 1 + 1 * (y 0).val; omega
  intro a
  fin_cases a
  · show 1 + 1 * (y 0).val = 0 + 1; omega
  · show 0 + 1 * (y 1).val = 0 + (y 1).val; omega
  · show 0 + 1 * (y 2).val = 0 + (y 2).val; omega

/-- A whole block stored over anything. -/
theorem out_stored (arg10 : Memref sig .tc .vmem S8192x128 .f32) (G : BufTy.Contents (Elt F) arg10.view.ty) (p : Vec F S8192x128 .f32) :
    arg10.view.read (Elt F) (arg10.view.writes (Elt F) G [⟨Rect.unit (s := S8192x128) ![0, 0] S8192x128.size inb_S8192x128_S8192x128_0_0, p⟩]) = p := by
  funext y
  refine View.read_writes_cons_unit_of_mem _ _ _ _ _ y y rfl ?_
  intro a
  fin_cases a
  · show (y 0).val = 0 + (y 0).val; omega
  · show (y 1).val = 0 + (y 1).val; omega

/-- The two slabs as stored after a block. -/
theorem acc_written (arg12 : Memref sig .tc .vmem S2x8x128 .f32) (G : BufTy.Contents (Elt F) arg12.view.ty) (L : List (View.Piece (Elt F) S2x8x128 .f32))
    (tab : Vec F S4x8x128 .i32) (cst : Vec F S4 .f32) (x : Vec F S8192x128 .f32) (acc : Vec F S2x8x128 .f32)
    (a0 a1 a2 a3 : FVec F S8x128 .f32) (v34 v41 : Vec F S1x8x128 .f32) (T : FVec F S8x128 .f32 × FVec F S8x128 .f32 × FVec F S8x128 .f32 × FVec F S8x128 .f32)
    (hT : T = sumsV tab cst x) (h0 : a0 = T.1) (h1 : a1 = T.2.1) (h2 : a2 = T.2.2.1) (h3 : a3 = T.2.2.2) (h34 : v34 = slab acc 0) (h41 : v41 = slab acc 1) :
    arg12.view.read (Elt F) (arg12.view.writes (Elt F) G (⟨Rect.unit (s := S2x8x128) ![1, 0, 0] S1x8x128.size inb_S2x8x128_S1x8x128_1_0_0, k0_pay4 a2 a3 v41⟩
      :: ⟨Rect.unit (s := S2x8x128) ![0, 0, 0] S1x8x128.size inb_S2x8x128_S1x8x128_0_0_0, k0_pay57 a0 a1 v34⟩ :: L)) = accStep tab cst x acc := by
  subst h0 h1 h2 h3 h34 h41 hT
  exact acc_stored arg12 G _ _ L

theorem off3_eq : ∀ b : Fin 8, (![(Scalar.indexCast (BitVec.ofNat 32 b.val)).toNat, 0, 0] : Fin 3 → ℕ) = ![b.val, 0, 0] := by
  decide +kernel

/-- A read of a whole array. -/
theorem whole_read {sp : Space} {s : Shape} {e : EltTy} {m : Memref sig .tc sp s e} (h : m.IsWhole) (x : Vec F s e) {off : Fin s.rank → ℕ}
    (inb : ∀ a, off a + s.size a ≤ s.size a) : View.readAt (Elt F) m.view (Rect.unit off s.size inb).toLoadRect (h.unread x) = x :=
  (View.readAt_full m.view _ inb).trans (h.read_unread x)

end Cert.KernelIdeal.Hand

end
-- ==== Proof.KernelIdealRunA.lean ====
/- The first grid point: the table is built, then block 0 is passed over. -/
module

public import proofs.«01_k».proof.Proof.KernelIdealSpec

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The first grid point: the table is built, then block 0 is passed over. -/
theorem runA (c : Dev nD) (i : grid0.Coords) (arg2 : Memref sig .tc .smem S2 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x64 .f32) (harg5 : arg5.IsWhole) (arg6 : Memref sig .tc .vmem S64x1 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8x8192x128 .f32) (harg11 : arg11.IsWhole) (arg12 : Memref sig .tc .vmem S2x8x128 .f32) (harg12 : arg12.IsWhole) (arg13 : Memref sig .tc .smem S2 .f32) (harg13 : arg13.IsWhole) (arg14 : Memref sig .tc .vmem S4x8x128 .i32) (harg14 : arg14.IsWhole) (arg15 : Memref sig .tc .smem S4 .f32) (harg15 : arg15.IsWhole) (hc1 : cond1 i = 1#1) (hc2 : k0_cond2 i = 1#1) (hc3 : ¬ cond3 i = 1#1) (hc4 : ¬ k0_cond4 i = 1#1)
   (x0 : Vec F S2 .f32) (x1 : Vec F S64x1 .f32) (x2 : Vec F S64x1 .f32) (x3 : Vec F S64x64 .f32) (x4 : Vec F S64x1 .f32) (x5 : Vec F S1x64 .f32) (x6 : Vec F S1x1 .f32) (x7 : Vec F S8192x128 .f32)
   (d8 : Vec F S8192x128 .f32) (fz : Vec F S8x8192x128 .f32) (acc : Vec F S2x8x128 .f32) (sc : Vec F S2 .f32) (tab : Vec F S4x8x128 .i32) (cst : Vec F S4 .f32) (E : Set ℕ) (K : PUnit → sProp 𝕄) :
   iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare fz ∗ owns (c : Thread nD τ) arg12 fullShare acc ∗ owns (c : Thread nD τ) arg13 fullShare sc ∗ owns (c : Thread nD τ) arg14 fullShare tab ∗ owns (c : Thread nD τ) arg15 fullShare cst
     ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare (fzStep (tabV (k0_pay6 x1 x2 x3 x4 x5 x6)) (cstV (k0_pay6 x1 x2 x3 x4 x5 x6)) x7 (i 1).val fz) ∗ owns (c : Thread nD τ) arg12 fullShare (accStep (tabV (k0_pay6 x1 x2 x3 x4 x5 x6)) (cstV (k0_pay6 x1 x2 x3 x4 x5 x6)) x7 k0_pay3) ∗ owns (c : Thread nD τ) arg13 fullShare sc ∗ owns (c : Thread nD τ) arg14 fullShare (tabV (k0_pay6 x1 x2 x3 x4 x5 x6)) ∗ owns (c : Thread nD τ) arg15 fullShare (cstV (k0_pay6 x1 x2 x3 x4 x5 x6))) -∗ K ⟨⟩))
    ⊢ wp frame (wpE (defs₀ (F := F)) Variants.none c none) E (cc0_innv4_main i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_innv4_main_eq_skeleton]; unfold cc0_innv4_main_skel
  simp only [k0_part1_eq_skeleton, k0_part2_eq_skeleton, k0_part3_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg11.eq_unread hfs0; obtain rfl := harg12.eq_unread hfs1; obtain rfl := harg13.eq_unread hfs2; obtain rfl := harg14.eq_unread hfs3; obtain rfl := harg15.eq_unread hfs4
  sl_exec (disch := first | sl_exact hc1 | sl_exact hc2 | sl_exact hc3 | sl_exact hc4)
  sl_step
  have hw : runA.sl.r (F := F) c arg3 harg3 arg4 harg4 arg5 harg5 arg6 harg6 arg7 harg7 arg8 harg8 x1 x2 x3 x4 x5 x6 = k0_pay6 x1 x2 x3 x4 x5 x6 := by
    unfold runA.sl.r
    rw [whole_read harg3 x1, whole_read harg4 x2, whole_read harg5 x3, whole_read harg6 x4, whole_read harg7 x5, whole_read harg8 x6]
  have hTr := (tab_written arg14 arg14.view.junk (runA.sl.r (F := F) c arg3 harg3 arg4 harg4 arg5 harg5 arg6 harg6 arg7 harg7 arg8 harg8 x1 x2 x3 x4 x5 x6)).trans (congrArg tabV hw)
  have hT : arg14.view.writes (Elt F) arg14.view.junk (runA.sl.HS3_4 (F := F) c arg3 harg3 arg4 harg4 arg5 harg5 arg6 harg6 arg7 harg7 arg8 harg8 x1 x2 x3 x4 x5 x6) = harg14.unread (tabV (k0_pay6 x1 x2 x3 x4 x5 x6)) := harg14.eq_unread hTr
  have hC : arg15.view.read (Elt F) (arg15.view.writes (Elt F) arg15.view.junk (runA.sl.HS4_4 (F := F) c arg3 harg3 arg4 harg4 arg5 harg5 arg6 harg6 arg7 harg7 arg8 harg8 x1 x2 x3 x4 x5 x6)) = (cstV (k0_pay6 x1 x2 x3 x4 x5 x6)) :=
    (cst_stored arg15 arg15.view.junk (![runA.sl.r_12 (F := F) c arg3 harg3 arg4 harg4 arg5 harg5 arg6 harg6 arg7 harg7 arg8 harg8 x1 x2 x3 x4 x5 x6, runA.sl.r_3 (F := F) c arg3 harg3 arg4 harg4 arg5 harg5 arg6 harg6 arg7 harg7 arg8 harg8 x1 x2 x3 x4 x5 x6, runA.sl.r_4 (F := F) c arg3 harg3 arg4 harg4 arg5 harg5 arg6 harg6 arg7 harg7 arg8 harg8 x1 x2 x3 x4 x5 x6, runA.sl.r_5 (F := F) c arg3 harg3 arg4 harg4 arg5 harg5 arg6 harg6 arg7 harg7 arg8 harg8 x1 x2 x3 x4 x5 x6] : Fin 4 → F .f32)).trans (congrArg cstV hw)
  have e0 : runA.sl.v16 (F := F) c arg3 harg3 arg4 harg4 arg5 harg5 arg6 harg6 arg7 harg7 arg8 harg8 arg14 x1 x2 x3 x4 x5 x6 = row (tabV (k0_pay6 x1 x2 x3 x4 x5 x6)) 0 :=
    (congrArg (View.readAt (Elt F) arg14.view (Rect.unit (s := S4x8x128) ![0, 0, 0] S1x8x128.size inb_S4x8x128_S1x8x128_0_0_0).toLoadRect) hT).trans (row_read harg14 (tabV (k0_pay6 x1 x2 x3 x4 x5 x6)) 0 inb_S4x8x128_S1x8x128_0_0_0)
  have e1 : runA.sl.v18 (F := F) c arg3 harg3 arg4 harg4 arg5 harg5 arg6 harg6 arg7 harg7 arg8 harg8 arg14 x1 x2 x3 x4 x5 x6 = row (tabV (k0_pay6 x1 x2 x3 x4 x5 x6)) 1 :=
    (congrArg (View.readAt (Elt F) arg14.view (Rect.unit (s := S4x8x128) ![1, 0, 0] S1x8x128.size inb_S4x8x128_S1x8x128_1_0_0).toLoadRect) hT).trans (row_read harg14 (tabV (k0_pay6 x1 x2 x3 x4 x5 x6)) 1 inb_S4x8x128_S1x8x128_1_0_0)
  have e2 : runA.sl.v20 (F := F) c arg3 harg3 arg4 harg4 arg5 harg5 arg6 harg6 arg7 harg7 arg8 harg8 arg14 x1 x2 x3 x4 x5 x6 = row (tabV (k0_pay6 x1 x2 x3 x4 x5 x6)) 2 :=
    (congrArg (View.readAt (Elt F) arg14.view (Rect.unit (s := S4x8x128) ![2, 0, 0] S1x8x128.size inb_S4x8x128_S1x8x128_2_0_0).toLoadRect) hT).trans (row_read harg14 (tabV (k0_pay6 x1 x2 x3 x4 x5 x6)) 2 inb_S4x8x128_S1x8x128_2_0_0)
  have e3 : runA.sl.v22 (F := F) c arg3 harg3 arg4 harg4 arg5 harg5 arg6 harg6 arg7 harg7 arg8 harg8 arg14 x1 x2 x3 x4 x5 x6 = row (tabV (k0_pay6 x1 x2 x3 x4 x5 x6)) 3 :=
    (congrArg (View.readAt (Elt F) arg14.view (Rect.unit (s := S4x8x128) ![3, 0, 0] S1x8x128.size inb_S4x8x128_S1x8x128_3_0_0).toLoadRect) hT).trans (row_read harg14 (tabV (k0_pay6 x1 x2 x3 x4 x5 x6)) 3 inb_S4x8x128_S1x8x128_3_0_0)
  have g0 : runA.sl.r_12 (F := F) c arg3 harg3 arg4 harg4 arg5 harg5 arg6 harg6 arg7 harg7 arg8 harg8 x1 x2 x3 x4 x5 x6 = (cstV (k0_pay6 x1 x2 x3 x4 x5 x6)) (ix1 0) :=
    congrFun (congrArg cstV hw) (ix1 0)
  have g1 : runA.sl.r_3 (F := F) c arg3 harg3 arg4 harg4 arg5 harg5 arg6 harg6 arg7 harg7 arg8 harg8 x1 x2 x3 x4 x5 x6 = (cstV (k0_pay6 x1 x2 x3 x4 x5 x6)) (ix1 1) :=
    congrFun (congrArg cstV hw) (ix1 1)
  have g2 : runA.sl.r_4 (F := F) c arg3 harg3 arg4 harg4 arg5 harg5 arg6 harg6 arg7 harg7 arg8 harg8 x1 x2 x3 x4 x5 x6 = (cstV (k0_pay6 x1 x2 x3 x4 x5 x6)) (ix1 2) :=
    congrFun (congrArg cstV hw) (ix1 2)
  have g3 : runA.sl.r_5 (F := F) c arg3 harg3 arg4 harg4 arg5 harg5 arg6 harg6 arg7 harg7 arg8 harg8 x1 x2 x3 x4 x5 x6 = (cstV (k0_pay6 x1 x2 x3 x4 x5 x6)) (ix1 3) :=
    congrFun (congrArg cstV hw) (ix1 3)
  have hS := loop_sums Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) hc2 (tabV (k0_pay6 x1 x2 x3 x4 x5 x6)) (cstV (k0_pay6 x1 x2 x3 x4 x5 x6)) _ _ _ _ _ _ _ _ e0 e1 e2 e3 g0 g1 g2 g3 x7
  have hF := loop_stores Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) hc2 (tabV (k0_pay6 x1 x2 x3 x4 x5 x6)) (cstV (k0_pay6 x1 x2 x3 x4 x5 x6)) _ _ _ _ _ _ _ _ e0 e1 e2 e3 g0 g1 g2 g3 x7 fz
  have a0 : runA.sl.v34 (F := F) c arg12 = slab k0_pay3 0 := acc_zero0 arg12
  have a1 : runA.sl.v41 (F := F) c i arg2 harg2 arg3 harg3 arg4 harg4 arg5 harg5 arg6 harg6 arg7 harg7 arg8 harg8 arg9 harg9 arg10 harg10 arg11 harg11 arg12 harg12 arg13 harg13 arg14 harg14 arg15 harg15 hc2 x1 x2 x3 x4 x5 x6 x7 = slab k0_pay3 1 := acc_zero1 arg12 _
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; swap; · iexact HS0
    ipureintro
    · exact hF
  isplitl [HS1]
  · iexists _; isplitr; swap; · iexact HS1
    ipureintro
    · exact acc_written arg12 arg12.view.junk runA.sl.HS1_1 (tabV (k0_pay6 x1 x2 x3 x4 x5 x6)) (cstV (k0_pay6 x1 x2 x3 x4 x5 x6)) x7 k0_pay3 _ _ _ _ _ _ _ hS rfl rfl rfl rfl a0 a1
  isplitl [HS2]
  · iexists _; isplitr; · ipureintro; exact harg13.read_unread _
    iexact HS2
  isplitl [HS3]
  · iexists _; isplitr; swap; · iexact HS3
    ipureintro
    · exact hTr
  iexists _; isplitr; swap; · iexact HS4
  ipureintro
  · exact hC

end Cert.KernelIdeal.Hand

end
-- ==== Proof.KernelIdealRunB.lean ====
/- A later point of phase 0: one block is passed over. -/
module

public import proofs.«01_k».proof.Proof.KernelIdealSpec

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- A later point of phase 0: one block is passed over. -/
theorem runB (c : Dev nD) (i : grid0.Coords) (arg2 : Memref sig .tc .smem S2 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x64 .f32) (harg5 : arg5.IsWhole) (arg6 : Memref sig .tc .vmem S64x1 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8x8192x128 .f32) (harg11 : arg11.IsWhole) (arg12 : Memref sig .tc .vmem S2x8x128 .f32) (harg12 : arg12.IsWhole) (arg13 : Memref sig .tc .smem S2 .f32) (harg13 : arg13.IsWhole) (arg14 : Memref sig .tc .vmem S4x8x128 .i32) (harg14 : arg14.IsWhole) (arg15 : Memref sig .tc .smem S4 .f32) (harg15 : arg15.IsWhole) (hc1 : ¬ cond1 i = 1#1) (hc2 : k0_cond2 i = 1#1) (hc3 : ¬ cond3 i = 1#1) (hc4 : ¬ k0_cond4 i = 1#1)
   (x0 : Vec F S2 .f32) (x1 : Vec F S64x1 .f32) (x2 : Vec F S64x1 .f32) (x3 : Vec F S64x64 .f32) (x4 : Vec F S64x1 .f32) (x5 : Vec F S1x64 .f32) (x6 : Vec F S1x1 .f32) (x7 : Vec F S8192x128 .f32)
   (d8 : Vec F S8192x128 .f32) (fz : Vec F S8x8192x128 .f32) (acc : Vec F S2x8x128 .f32) (sc : Vec F S2 .f32) (tab : Vec F S4x8x128 .i32) (cst : Vec F S4 .f32) (E : Set ℕ) (K : PUnit → sProp 𝕄) :
   iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare fz ∗ owns (c : Thread nD τ) arg12 fullShare acc ∗ owns (c : Thread nD τ) arg13 fullShare sc ∗ owns (c : Thread nD τ) arg14 fullShare tab ∗ owns (c : Thread nD τ) arg15 fullShare cst
     ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare (fzStep tab cst x7 (i 1).val fz) ∗ owns (c : Thread nD τ) arg12 fullShare (accStep tab cst x7 acc) ∗ owns (c : Thread nD τ) arg13 fullShare sc ∗ owns (c : Thread nD τ) arg14 fullShare tab ∗ owns (c : Thread nD τ) arg15 fullShare cst) -∗ K ⟨⟩))
    ⊢ wp frame (wpE (defs₀ (F := F)) Variants.none c none) E (cc0_innv4_main i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_innv4_main_eq_skeleton]; unfold cc0_innv4_main_skel
  simp only [k0_part1_eq_skeleton, k0_part2_eq_skeleton, k0_part3_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg11.eq_unread hfs0; obtain rfl := harg12.eq_unread hfs1; obtain rfl := harg13.eq_unread hfs2; obtain rfl := harg14.eq_unread hfs3; obtain rfl := harg15.eq_unread hfs4
  sl_exec (disch := first | sl_exact hc1 | sl_exact hc2 | sl_exact hc3 | sl_exact hc4)
  sl_step
  have e0 : View.readAt (Elt F) arg14.view (Rect.unit (s := S4x8x128) ![0, 0, 0] S1x8x128.size inb_S4x8x128_S1x8x128_0_0_0).toLoadRect (harg14.unread tab) = row tab 0 := row_read harg14 tab 0 inb_S4x8x128_S1x8x128_0_0_0
  have e1 : View.readAt (Elt F) arg14.view (Rect.unit (s := S4x8x128) ![1, 0, 0] S1x8x128.size inb_S4x8x128_S1x8x128_1_0_0).toLoadRect (harg14.unread tab) = row tab 1 := row_read harg14 tab 1 inb_S4x8x128_S1x8x128_1_0_0
  have e2 : View.readAt (Elt F) arg14.view (Rect.unit (s := S4x8x128) ![2, 0, 0] S1x8x128.size inb_S4x8x128_S1x8x128_2_0_0).toLoadRect (harg14.unread tab) = row tab 2 := row_read harg14 tab 2 inb_S4x8x128_S1x8x128_2_0_0
  have e3 : View.readAt (Elt F) arg14.view (Rect.unit (s := S4x8x128) ![3, 0, 0] S1x8x128.size inb_S4x8x128_S1x8x128_3_0_0).toLoadRect (harg14.unread tab) = row tab 3 := row_read harg14 tab 3 inb_S4x8x128_S1x8x128_3_0_0
  have g0 : runB.sl.r (F := F) c arg15 harg15 cst = cst (ix1 0) := cst_read harg15 cst 0 inb_S4_S1_0 _
  have g1 : runB.sl.r_1 (F := F) c arg15 harg15 cst = cst (ix1 1) := cst_read harg15 cst 1 inb_S4_S1_1 _
  have g2 : runB.sl.r_2 (F := F) c arg15 harg15 cst = cst (ix1 2) := cst_read harg15 cst 2 inb_S4_S1_2 _
  have g3 : runB.sl.r_3 (F := F) c arg15 harg15 cst = cst (ix1 3) := cst_read harg15 cst 3 inb_S4_S1_3 _
  have hS := loop_sums Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) hc2 tab cst _ _ _ _ _ _ _ _ e0 e1 e2 e3 g0 g1 g2 g3 x7
  have hF := loop_stores Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) hc2 tab cst _ _ _ _ _ _ _ _ e0 e1 e2 e3 g0 g1 g2 g3 x7 fz
  have a0 : View.readAt (Elt F) arg12.view (Rect.unit (s := S2x8x128) ![0, 0, 0] S1x8x128.size inb_S2x8x128_S1x8x128_0_0_0).toLoadRect (harg12.unread acc) = slab acc 0 := slab_read harg12 acc 0 inb_S2x8x128_S1x8x128_0_0_0
  have a1 : runB.sl.v41 (F := F) c arg12 harg12 acc = slab acc 1 := slab_read harg12 acc 1 inb_S2x8x128_S1x8x128_1_0_0
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; swap; · iexact HS0
    ipureintro
    · exact hF
  isplitl [HS1]
  · iexists _; isplitr; swap; · iexact HS1
    ipureintro
    · exact acc_written arg12 (harg12.unread acc) [] tab cst x7 acc _ _ _ _ _ _ _ hS rfl rfl rfl rfl a0 a1
  isplitl [HS2]
  · iexists _; isplitr; · ipureintro; exact harg13.read_unread _
    iexact HS2
  isplitl [HS3]
  · iexists _; isplitr; · ipureintro; exact harg14.read_unread _
    iexact HS3
  iexists _; isplitr; · ipureintro; exact harg15.read_unread _
  iexact HS4

end Cert.KernelIdeal.Hand

end
-- ==== Proof.KernelIdealRunC.lean ====
/- The first point of phase 1: the affine map is computed and block 0 of the output written. -/
module

public import proofs.«01_k».proof.Proof.KernelIdealSpec

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The first point of phase 1: the affine map is computed and block 0 of the output written. -/
theorem runC (c : Dev nD) (i : grid0.Coords) (arg2 : Memref sig .tc .smem S2 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x64 .f32) (harg5 : arg5.IsWhole) (arg6 : Memref sig .tc .vmem S64x1 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8x8192x128 .f32) (harg11 : arg11.IsWhole) (arg12 : Memref sig .tc .vmem S2x8x128 .f32) (harg12 : arg12.IsWhole) (arg13 : Memref sig .tc .smem S2 .f32) (harg13 : arg13.IsWhole) (arg14 : Memref sig .tc .vmem S4x8x128 .i32) (harg14 : arg14.IsWhole) (arg15 : Memref sig .tc .smem S4 .f32) (harg15 : arg15.IsWhole) (hc1 : ¬ cond1 i = 1#1) (hc2 : ¬ k0_cond2 i = 1#1) (hc3 : cond3 i = 1#1) (hc4 : k0_cond4 i = 1#1)
   (x0 : Vec F S2 .f32) (x1 : Vec F S64x1 .f32) (x2 : Vec F S64x1 .f32) (x3 : Vec F S64x64 .f32) (x4 : Vec F S64x1 .f32) (x5 : Vec F S1x64 .f32) (x6 : Vec F S1x1 .f32) (x7 : Vec F S8192x128 .f32)
   (d8 : Vec F S8192x128 .f32) (fz : Vec F S8x8192x128 .f32) (acc : Vec F S2x8x128 .f32) (sc : Vec F S2 .f32) (tab : Vec F S4x8x128 .i32) (cst : Vec F S4 .f32) (E : Set ℕ) (K : PUnit → sProp 𝕄) :
   iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare fz ∗ owns (c : Thread nD τ) arg12 fullShare acc ∗ owns (c : Thread nD τ) arg13 fullShare sc ∗ owns (c : Thread nD τ) arg14 fullShare tab ∗ owns (c : Thread nD τ) arg15 fullShare cst
     ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outV fz (scV acc x0) (i 1)) ∗ owns (c : Thread nD τ) arg11 fullShare fz ∗ owns (c : Thread nD τ) arg12 fullShare acc ∗ owns (c : Thread nD τ) arg13 fullShare (scV acc x0) ∗ owns (c : Thread nD τ) arg14 fullShare tab ∗ owns (c : Thread nD τ) arg15 fullShare cst) -∗ K ⟨⟩))
    ⊢ wp frame (wpE (defs₀ (F := F)) Variants.none c none) E (cc0_innv4_main i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_innv4_main_eq_skeleton]; unfold cc0_innv4_main_skel
  simp only [k0_part1_eq_skeleton, k0_part2_eq_skeleton, k0_part3_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg11.eq_unread hfs0; obtain rfl := harg12.eq_unread hfs1; obtain rfl := harg13.eq_unread hfs2; obtain rfl := harg14.eq_unread hfs3; obtain rfl := harg15.eq_unread hfs4
  sl_exec (disch := first | sl_exact hc1 | sl_exact hc2 | sl_exact hc3 | sl_exact hc4)
  sl_step
  have hb : runC.sl.v17 (F := F) c i arg11 harg11 hc4 fz = (fun y => fz (ix3 (i 1) (y 1) (y 2))) := blk_read harg11 fz (i 1) (k0_off3 i) (k0_off3_inb i hc4) (off3_eq (i 1))
  have a0 : View.readAt (Elt F) arg12.view (Rect.unit (s := S2x8x128) ![0, 0, 0] S1x8x128.size inb_S2x8x128_S1x8x128_0_0_0).toLoadRect (harg12.unread acc) = slab acc 0 := slab_read harg12 acc 0 inb_S2x8x128_S1x8x128_0_0_0
  have a1 : View.readAt (Elt F) arg12.view (Rect.unit (s := S2x8x128) ![1, 0, 0] S1x8x128.size inb_S2x8x128_S1x8x128_1_0_0).toLoadRect (harg12.unread acc) = slab acc 1 := slab_read harg12 acc 1 inb_S2x8x128_S1x8x128_1_0_0
  have p0 : runC.sl.r (F := F) c arg2 harg2 x0 = x0 (ix1 0) := pair_read harg2 x0 0 inb_S2_S1_0 _
  have s0 : k0_pay59 (View.readAt (Elt F) arg12.view (Rect.unit (s := S2x8x128) ![0, 0, 0] S1x8x128.size inb_S2x8x128_S1x8x128_0_0_0).toLoadRect (harg12.unread acc)) (View.readAt (Elt F) arg12.view (Rect.unit (s := S2x8x128) ![1, 0, 0] S1x8x128.size inb_S2x8x128_S1x8x128_1_0_0).toLoadRect (harg12.unread acc)) (runC.sl.r (F := F) c arg2 harg2 x0) = scV acc x0 (ix1 0) := by
    rw [a0, a1, p0]; rfl
  have s1 : runC.sl.r_3 (F := F) c arg2 harg2 arg12 harg12 x0 acc = scV acc x0 (ix1 1) := by
    unfold runC.sl.r_3
    have p1 : runC.sl.r_2 (F := F) c arg2 harg2 x0 = x0 (ix1 1) := pair_read harg2 x0 1 inb_S2_S1_1 _
    rw [a0, a1, p0, p1]; rfl
  have hsc := sc_stored arg13 (harg13.unread sc) ![scV acc x0 (ix1 0), scV acc x0 (ix1 1)]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    · refine (out_stored arg10 _ _).trans ?_
      rw [hb, s1]
      unfold runC.sl.r_5
      rw [s0]
      rfl
  isplitl [HS0]
  · iexists _; isplitr; · ipureintro; exact harg11.read_unread _
    iexact HS0
  isplitl [HS1]
  · iexists _; isplitr; · ipureintro; exact harg12.read_unread _
    iexact HS1
  isplitl [HS2]
  · iexists _; isplitr; swap; · iexact HS2
    ipureintro
    · rw [s0, s1]
      refine hsc.trans ?_
      funext y
      obtain ⟨q, rfl⟩ : ∃ q : Fin 2, y = ix1 q := ⟨y 0, eq_ix1 y⟩
      fin_cases q <;> rfl
  isplitl [HS3]
  · iexists _; isplitr; · ipureintro; exact harg14.read_unread _
    iexact HS3
  iexists _; isplitr; · ipureintro; exact harg15.read_unread _
  iexact HS4

end Cert.KernelIdeal.Hand

end
-- ==== Proof.KernelIdealRunD.lean ====
/- A later point of phase 1: one block of the output is written. -/
module

public import proofs.«01_k».proof.Proof.KernelIdealSpec

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- A later point of phase 1: one block of the output is written. -/
theorem runD (c : Dev nD) (i : grid0.Coords) (arg2 : Memref sig .tc .smem S2 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x64 .f32) (harg5 : arg5.IsWhole) (arg6 : Memref sig .tc .vmem S64x1 .f32) (harg6 : arg6.IsWhole) (arg7 : Memref sig .tc .vmem S1x64 .f32) (harg7 : arg7.IsWhole) (arg8 : Memref sig .tc .vmem S1x1 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8x8192x128 .f32) (harg11 : arg11.IsWhole) (arg12 : Memref sig .tc .vmem S2x8x128 .f32) (harg12 : arg12.IsWhole) (arg13 : Memref sig .tc .smem S2 .f32) (harg13 : arg13.IsWhole) (arg14 : Memref sig .tc .vmem S4x8x128 .i32) (harg14 : arg14.IsWhole) (arg15 : Memref sig .tc .smem S4 .f32) (harg15 : arg15.IsWhole) (hc1 : ¬ cond1 i = 1#1) (hc2 : ¬ k0_cond2 i = 1#1) (hc3 : ¬ cond3 i = 1#1) (hc4 : k0_cond4 i = 1#1)
   (x0 : Vec F S2 .f32) (x1 : Vec F S64x1 .f32) (x2 : Vec F S64x1 .f32) (x3 : Vec F S64x64 .f32) (x4 : Vec F S64x1 .f32) (x5 : Vec F S1x64 .f32) (x6 : Vec F S1x1 .f32) (x7 : Vec F S8192x128 .f32)
   (d8 : Vec F S8192x128 .f32) (fz : Vec F S8x8192x128 .f32) (acc : Vec F S2x8x128 .f32) (sc : Vec F S2 .f32) (tab : Vec F S4x8x128 .i32) (cst : Vec F S4 .f32) (E : Set ℕ) (K : PUnit → sProp 𝕄) :
   iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare fz ∗ owns (c : Thread nD τ) arg12 fullShare acc ∗ owns (c : Thread nD τ) arg13 fullShare sc ∗ owns (c : Thread nD τ) arg14 fullShare tab ∗ owns (c : Thread nD τ) arg15 fullShare cst
     ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outV fz sc (i 1)) ∗ owns (c : Thread nD τ) arg11 fullShare fz ∗ owns (c : Thread nD τ) arg12 fullShare acc ∗ owns (c : Thread nD τ) arg13 fullShare sc ∗ owns (c : Thread nD τ) arg14 fullShare tab ∗ owns (c : Thread nD τ) arg15 fullShare cst) -∗ K ⟨⟩))
    ⊢ wp frame (wpE (defs₀ (F := F)) Variants.none c none) E (cc0_innv4_main i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_innv4_main_eq_skeleton]; unfold cc0_innv4_main_skel
  simp only [k0_part1_eq_skeleton, k0_part2_eq_skeleton, k0_part3_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg11.eq_unread hfs0; obtain rfl := harg12.eq_unread hfs1; obtain rfl := harg13.eq_unread hfs2; obtain rfl := harg14.eq_unread hfs3; obtain rfl := harg15.eq_unread hfs4
  sl_exec (disch := first | sl_exact hc1 | sl_exact hc2 | sl_exact hc3 | sl_exact hc4)
  sl_step
  have hb : runD.sl.v17 (F := F) c i arg11 harg11 hc4 fz = (fun y => fz (ix3 (i 1) (y 1) (y 2))) := blk_read harg11 fz (i 1) (k0_off3 i) (k0_off3_inb i hc4) (off3_eq (i 1))
  have p0 : runD.sl.r (F := F) c arg13 harg13 sc = sc (ix1 0) := pair_read harg13 sc 0 inb_S2_S1_0 _
  have p1 : runD.sl.r_1 (F := F) c arg13 harg13 sc = sc (ix1 1) := pair_read harg13 sc 1 inb_S2_S1_1 _
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    · refine (out_stored arg10 _ _).trans ?_
      rw [hb, p0, p1]
      rfl
  isplitl [HS0]
  · iexists _; isplitr; · ipureintro; exact harg11.read_unread _
    iexact HS0
  isplitl [HS1]
  · iexists _; isplitr; · ipureintro; exact harg12.read_unread _
    iexact HS1
  isplitl [HS2]
  · iexists _; isplitr; · ipureintro; exact harg13.read_unread _
    iexact HS2
  isplitl [HS3]
  · iexists _; isplitr; · ipureintro; exact harg14.read_unread _
    iexact HS3
  iexists _; isplitr; · ipureintro; exact harg15.read_unread _
  iexact HS4

end Cert.KernelIdeal.Hand

end
-- ==== Proof.KernelIdealState.lean ====
/- What the kernel's buffers hold between grid points: the closed forms, the invariant and the proof data. -/
module

public import proofs.«01_k».proof.Proof.KernelIdealRunA
public import proofs.«01_k».proof.Proof.KernelIdealRunB
public import proofs.«01_k».proof.Proof.KernelIdealRunC
public import proofs.«01_k».proof.Proof.KernelIdealRunD
public import proofs.«01_k».proof.Proof.Gen.KernelIdeal.Frame
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The grid's points -/

theorem lt16 (t : Fin cfg0.N) : t.val < 16 := lt_of_lt_of_eq t.isLt (show cfg0.N = 16 from N_0)
theorem coord0 (t : Fin cfg0.N) : (grid0.coords t 0).val = t.val / 8 := by
  have h := lt16 t
  have e : (grid0.coords t 0).val = t.val / 8 % 2 := Pipeline.Grid.coords_val (G := grid0) t 0 (by decide) rfl
  omega
theorem coord1 (t : Fin cfg0.N) : (grid0.coords t 1).val = t.val % 8 := by
  have e : (grid0.coords t 1).val = t.val / 1 % 8 := Pipeline.Grid.coords_val (G := grid0) t 1 (by decide) rfl
  omega

/-- The table is built at the first point only. -/
theorem at1 (t : Fin cfg0.N) : cond1 (grid0.coords t) = 1#1 ↔ t.val = 0 := by
  have ht : t.val < 16 := lt16 t
  have e0 := coord0 t
  have e1 := coord1 t
  simp only [cond1, e0, e1]
  word_cmp
/-- Phase 0 is the first eight points. -/
theorem at2 (t : Fin cfg0.N) : k0_cond2 (grid0.coords t) = 1#1 ↔ t.val < 8 := by
  have ht : t.val < 16 := lt16 t
  have e0 := coord0 t
  simp only [k0_cond2, e0]
  word_cmp
/-- The affine map is computed at point 8 only. -/
theorem at3 (t : Fin cfg0.N) : cond3 (grid0.coords t) = 1#1 ↔ t.val = 8 := by
  have ht : t.val < 16 := lt16 t
  have e0 := coord0 t
  have e1 := coord1 t
  simp only [cond3, e0, e1]
  word_cmp
/-- Phase 1 is the last eight points. -/
theorem at4 (t : Fin cfg0.N) : k0_cond4 (grid0.coords t) = 1#1 ↔ 8 ≤ t.val := by
  have ht : t.val < 16 := lt16 t
  have e0 := coord0 t
  simp only [k0_cond4, e0]
  word_cmp

/-- The output window is idle in phase 0, -/
theorem idleAt (t : Fin cfg0.N) (h : t.val < 8) : cfg0.idle 8 (grid0.coords t) = true := by
  show (!(k0_cond4 (grid0.coords t) == 1#1)) = true
  have : k0_cond4 (grid0.coords t) ≠ 1#1 := fun e => absurd ((at4 t).mp e) (by omega)
  simp [this]
/-- live in phase 1, -/
theorem liveAt (t : Fin cfg0.N) (h : 8 ≤ t.val) : cfg0.idle 8 (grid0.coords t) = false := by
  show (!(k0_cond4 (grid0.coords t) == 1#1)) = false
  simp [(at4 t).mpr h]
/-- and written back at the points of phase 1. -/
theorem flushAt : ∀ t : Fin grid0.N, win0_8.flush t = decide (8 ≤ t.val) := by decide +kernel

/-! ## The closed forms -/

/-- Point `n` of the grid. -/
def pt (n : ℕ) : Fin cfg0.N := ⟨n % 16, lt_of_lt_of_eq (Nat.mod_lt _ (by decide)) (show 16 = cfg0.N from N_0.symm)⟩
theorem pt_val (t : Fin cfg0.N) : pt t.val = t := Fin.ext (Nat.mod_eq_of_lt (lt16 t))

/-- The block window 0 holds at point `t`. -/
def ib0 (c : Dev nD) (t : Fin cfg0.N) : Vec F S2 .f32 := iblk m c 0 t
/-- The block window 1 holds at point `t`. -/
def ib1 (c : Dev nD) (t : Fin cfg0.N) : Vec F S64x1 .f32 := iblk m c 1 t
/-- The block window 2 holds at point `t`. -/
def ib2 (c : Dev nD) (t : Fin cfg0.N) : Vec F S64x1 .f32 := iblk m c 2 t
/-- The block window 3 holds at point `t`. -/
def ib3 (c : Dev nD) (t : Fin cfg0.N) : Vec F S64x64 .f32 := iblk m c 3 t
/-- The block window 4 holds at point `t`. -/
def ib4 (c : Dev nD) (t : Fin cfg0.N) : Vec F S64x1 .f32 := iblk m c 4 t
/-- The block window 5 holds at point `t`. -/
def ib5 (c : Dev nD) (t : Fin cfg0.N) : Vec F S1x64 .f32 := iblk m c 5 t
/-- The block window 6 holds at point `t`. -/
def ib6 (c : Dev nD) (t : Fin cfg0.N) : Vec F S1x1 .f32 := iblk m c 6 t
/-- The block window 7 holds at point `t`. -/
def ib7 (c : Dev nD) (t : Fin cfg0.N) : Vec F S8192x128 .f32 := iblk m c 7 t

/-- The table of slopes, from the weights as the first point finds them. -/
def WV (c : Dev nD) : FVec F S1x512 .f32 := k0_pay6 (ib1 m c (pt 0)) (ib2 m c (pt 0)) (ib3 m c (pt 0)) (ib4 m c (pt 0)) (ib5 m c (pt 0)) (ib6 m c (pt 0))
/-- The packed table. -/
def TAB (c : Dev nD) : Vec F S4x8x128 .i32 := tabV (WV m c)
/-- Its four constants. -/
def CST (c : Dev nD) : Vec F S4 .f32 := cstV (WV m c)
/-- The running sums after `n` blocks. -/
def ACC (c : Dev nD) : ℕ → Vec F S2x8x128 .f32
  | 0 => k0_pay3
  | n + 1 => accStep (TAB m c) (CST m c) (ib7 m c (pt n)) (ACC c n)
/-- The interpolants of all eight blocks. -/
def FZ (c : Dev nD) : Vec F S8x8192x128 .f32 := fun y => blkV (TAB m c) (CST m c) (ib7 m c (pt (y 0).val)) (ix2 (y 1) (y 2))
/-- The affine map's two numbers. -/
def SC (c : Dev nD) : Vec F S2 .f32 := scV (ACC m c 8) (ib0 m c (pt 8))
/-- The block written at point `t`. -/
def OUT (c : Dev nD) (t : Fin cfg0.N) : Vec F S8192x128 .f32 := outV (FZ m c) (SC m c) (grid0.coords t 1)

/-- One more block of interpolants. -/
theorem fz_next (c : Dev nD) (t : Fin cfg0.N) (h : t.val < 8) (f : Vec F S8x8192x128 .f32) (hf : ∀ y, (y 0).val < t.val → f y = FZ m c y) :
    ∀ y, (y 0).val < t.val + 1 → fzStep (TAB m c) (CST m c) (ib7 m c t) (grid0.coords t 1).val f y = FZ m c y := by
  intro y hy
  have e := coord1 t
  have e' : t.val % 8 = t.val := Nat.mod_eq_of_lt h
  unfold fzStep
  by_cases hb : (y 0).val = (grid0.coords t 1).val
  · rw [if_pos hb]
    unfold FZ
    rw [show pt (y 0).val = t from by rw [hb, e, e']; exact pt_val t]
  · rw [if_neg hb]
    exact hf y (by omega)

/-- The running sums after the block at point `t`. -/
theorem acc_next (c : Dev nD) (t : Fin cfg0.N) : ACC m c (t.val + 1) = accStep (TAB m c) (CST m c) (ib7 m c t) (ACC m c t.val) := by
  show accStep (TAB m c) (CST m c) (ib7 m c (pt t.val)) (ACC m c t.val) = _
  rw [pt_val]

/-! ## The invariant -/

/-- The five scratch buffers: interpolants, sums, affine map, table, constants. -/
abbrev sm0 : Memref sig .tc .vmem S8x8192x128 .f32 := Memref.whole cc0_scratch0
abbrev sm1 : Memref sig .tc .vmem S2x8x128 .f32 := Memref.whole cc0_scratch1
abbrev sm2 : Memref sig .tc .smem S2 .f32 := Memref.whole cc0_scratch2
abbrev sm3 : Memref sig .tc .vmem S4x8x128 .i32 := Memref.whole cc0_scratch3
abbrev sm4 : Memref sig .tc .smem S4 .f32 := Memref.whole cc0_scratch4

/-- Before the first point: every scratch buffer at anything. -/
theorem start_eq (c : Dev nD) :
    (Pipeline.ΦA spec0 c : sProp 𝕄)
      = iprop(iprop((∃ d, owns (c : Thread nD τ) sm0 fullShare d) ∗ (∃ d, owns (c : Thread nD τ) sm1 fullShare d) ∗ (∃ d, owns (c : Thread nD τ) sm3 fullShare d) ∗ (∃ d, owns (c : Thread nD τ) sm2 fullShare d) ∗ (∃ d, owns (c : Thread nD τ) sm4 fullShare d)) ∗ (∃ r, prngReg c r)) := by
  unfold Pipeline.ΦA; rw [scopedRest0_eq]; simp only [sm0, sm1, sm2, sm3, sm4, owns_whole]; try rfl

/-- In phase 0, `n` blocks passed over. -/
def PhiL (c : Dev nD) (n : ℕ) : sProp 𝕄 :=
  iprop(iprop((∃ f, ⌜∀ y, (y 0).val < n → f y = FZ m c y⌝ ∗ owns (c : Thread nD τ) sm0 fullShare f) ∗ owns (c : Thread nD τ) sm1 fullShare (ACC m c n) ∗ owns (c : Thread nD τ) sm3 fullShare (TAB m c) ∗ (∃ d, owns (c : Thread nD τ) sm2 fullShare d) ∗ owns (c : Thread nD τ) sm4 fullShare (CST m c)) ∗ (∃ r, prngReg c r))
/-- In phase 1. -/
def PhiR (c : Dev nD) : sProp 𝕄 :=
  iprop(iprop(owns (c : Thread nD τ) sm0 fullShare (FZ m c) ∗ owns (c : Thread nD τ) sm1 fullShare (ACC m c 8) ∗ owns (c : Thread nD τ) sm3 fullShare (TAB m c) ∗ owns (c : Thread nD τ) sm2 fullShare (SC m c) ∗ owns (c : Thread nD τ) sm4 fullShare (CST m c)) ∗ (∃ r, prngReg c r))
/-- Before point `n`. -/
def Phi (c : Dev nD) (n : ℕ) : sProp 𝕄 := if n = 0 then Pipeline.ΦA spec0 c else if n ≤ 8 then PhiL m c n else PhiR m c
theorem Phi_zero (c : Dev nD) : Phi m c 0 = Pipeline.ΦA spec0 c := if_pos rfl
theorem Phi_low (c : Dev nD) (n : ℕ) (h : n ≠ 0) (h' : n ≤ 8) : Phi m c n = PhiL m c n := (if_neg h).trans (if_pos h')
theorem Phi_high (c : Dev nD) (n : ℕ) (h : 8 < n) : Phi m c n = PhiR m c := (if_neg (by omega)).trans (if_neg (by omega))

/-! ## The proof data -/

/-- What each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => OUT m c t
  Φ t := Phi m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; rfl
theorem Phi_succ (c : Dev nD) (t : Fin cfg0.N) : (dats m 0 c).Φ t.succ = Phi m c (t.val + 1) := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = OUT m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The staging buffers -/

abbrev ms0 (t : Fin cfg0.N) : Memref sig .tc .smem S2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8192x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8192x128 .f32 := win0_8.stage (cfg0.slots t 8)
abbrev hs8 (t : Fin cfg0.N) : (ms8 t).IsWhole := hstage0_8 ((cfg0.slots t 8).cast nbuf0_8)
theorem leaves_0 (c : Dev nD) (t : Fin cfg0.N) : (dats m 0 c).leavesExact 0 t = owns (c : Thread nD τ) (ms0 t) fullShare (ib0 m c t) := by
  unfold Dat.leavesExact; rw [show cfg0.idle 0 (cfg0.grid.coords t) = false from rfl, after_0]; rfl
theorem leaves_1 (c : Dev nD) (t : Fin cfg0.N) : (dats m 0 c).leavesExact 1 t = owns (c : Thread nD τ) (ms1 t) fullShare (ib1 m c t) := by
  unfold Dat.leavesExact; rw [show cfg0.idle 1 (cfg0.grid.coords t) = false from rfl, after_1]; rfl
theorem leaves_2 (c : Dev nD) (t : Fin cfg0.N) : (dats m 0 c).leavesExact 2 t = owns (c : Thread nD τ) (ms2 t) fullShare (ib2 m c t) := by
  unfold Dat.leavesExact; rw [show cfg0.idle 2 (cfg0.grid.coords t) = false from rfl, after_2]; rfl
theorem leaves_3 (c : Dev nD) (t : Fin cfg0.N) : (dats m 0 c).leavesExact 3 t = owns (c : Thread nD τ) (ms3 t) fullShare (ib3 m c t) := by
  unfold Dat.leavesExact; rw [show cfg0.idle 3 (cfg0.grid.coords t) = false from rfl, after_3]; rfl
theorem leaves_4 (c : Dev nD) (t : Fin cfg0.N) : (dats m 0 c).leavesExact 4 t = owns (c : Thread nD τ) (ms4 t) fullShare (ib4 m c t) := by
  unfold Dat.leavesExact; rw [show cfg0.idle 4 (cfg0.grid.coords t) = false from rfl, after_4]; rfl
theorem leaves_5 (c : Dev nD) (t : Fin cfg0.N) : (dats m 0 c).leavesExact 5 t = owns (c : Thread nD τ) (ms5 t) fullShare (ib5 m c t) := by
  unfold Dat.leavesExact; rw [show cfg0.idle 5 (cfg0.grid.coords t) = false from rfl, after_5]; rfl
theorem leaves_6 (c : Dev nD) (t : Fin cfg0.N) : (dats m 0 c).leavesExact 6 t = owns (c : Thread nD τ) (ms6 t) fullShare (ib6 m c t) := by
  unfold Dat.leavesExact; rw [show cfg0.idle 6 (cfg0.grid.coords t) = false from rfl, after_6]; rfl
theorem leaves_7 (c : Dev nD) (t : Fin cfg0.N) : (dats m 0 c).leavesExact 7 t = owns (c : Thread nD τ) (ms7 t) fullShare (ib7 m c t) := by
  unfold Dat.leavesExact; rw [show cfg0.idle 7 (cfg0.grid.coords t) = false from rfl, after_7]; rfl
theorem leaves_idle (c : Dev nD) (t : Fin cfg0.N) (h : t.val < 8) : (dats m 0 c).leavesExact 8 t = iprop(∃ d, owns (c : Thread nD τ) (ms8 t) fullShare ((dats m 0 c).before 8 t d)) :=
  Dat.leavesExact_idle _ 8 t (idleAt t h) ((flushAt t).trans (decide_eq_false (by omega)))
theorem leaves_live (c : Dev nD) (t : Fin cfg0.N) (h : 8 ≤ t.val) : (dats m 0 c).leavesExact 8 t = owns (c : Thread nD τ) (ms8 t) fullShare (OUT m c t) := by
  unfold Dat.leavesExact; rw [show cfg0.idle 8 (cfg0.grid.coords t) = false from liveAt t h, after_8]

/-! ## The body's triple, stated -/

/-- What the body is called with at point `t`, the invariant being `Ψ`, -/
def pre (Ψ : sProp 𝕄) (c : Dev nD) (t : Fin cfg0.N) : sProp 𝕄 :=
  iprop(Ψ ∗ (dats m 0 c).owesAt () t.castSucc
    ∗ owns (c : Thread nD τ) (ms0 t) fullShare (ib0 m c t)
    ∗ owns (c : Thread nD τ) (ms1 t) fullShare (ib1 m c t)
    ∗ owns (c : Thread nD τ) (ms2 t) fullShare (ib2 m c t)
    ∗ owns (c : Thread nD τ) (ms3 t) fullShare (ib3 m c t)
    ∗ owns (c : Thread nD τ) (ms4 t) fullShare (ib4 m c t)
    ∗ owns (c : Thread nD τ) (ms5 t) fullShare (ib5 m c t)
    ∗ owns (c : Thread nD τ) (ms6 t) fullShare (ib6 m c t)
    ∗ owns (c : Thread nD τ) (ms7 t) fullShare (ib7 m c t)
    ∗ (∃ d, owns (c : Thread nD τ) (ms8 t) fullShare ((dats m 0 c).before 8 t d)))

/-- and what it returns, the output's buffer being as `Θ` says. -/
def post (Ψ Θ : sProp 𝕄) (c : Dev nD) (t : Fin cfg0.N) : sProp 𝕄 :=
  iprop(Ψ ∗ (dats m 0 c).owesAt () t.castSucc
    ∗ owns (c : Thread nD τ) (ms0 t) fullShare (ib0 m c t)
    ∗ owns (c : Thread nD τ) (ms1 t) fullShare (ib1 m c t)
    ∗ owns (c : Thread nD τ) (ms2 t) fullShare (ib2 m c t)
    ∗ owns (c : Thread nD τ) (ms3 t) fullShare (ib3 m c t)
    ∗ owns (c : Thread nD τ) (ms4 t) fullShare (ib4 m c t)
    ∗ owns (c : Thread nD τ) (ms5 t) fullShare (ib5 m c t)
    ∗ owns (c : Thread nD τ) (ms6 t) fullShare (ib6 m c t)
    ∗ owns (c : Thread nD τ) (ms7 t) fullShare (ib7 m c t)
    ∗ Θ)

end Cert.KernelIdeal.Hand

end
-- ==== Proof.KernelIdealBody.lean ====
/- The kernel's body keeps the invariant, at every grid point. -/
module

public import proofs.«01_k».proof.Proof.KernelIdealState

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

theorem soundA (c : Dev nD) (t : Fin cfg0.N) (h : t.val = 0) :
    pre m (Pipeline.ΦA spec0 c) c t ⊢ wp frame (wpE (defs₀ (F := F)) Variants.none c none) Set.univ (bodyAt0 t) (fun _ => post m (PhiL m c (t.val + 1)) (iprop(∃ d, owns (c : Thread nD τ) (ms8 t) fullShare ((dats m 0 c).before 8 t d))) c t) := by
  unfold pre post bodyAt0
  rw [start_eq]
  have et : t = pt 0 := by rw [← h]; exact (pt_val t).symm
  have eT : tabV (k0_pay6 (ib1 m c t) (ib2 m c t) (ib3 m c t) (ib4 m c t) (ib5 m c t) (ib6 m c t)) = TAB m c := by unfold TAB WV; rw [← et]
  have eC : cstV (k0_pay6 (ib1 m c t) (ib2 m c t) (ib3 m c t) (ib4 m c t) (ib5 m c t) (ib6 m c t)) = CST m c := by unfold CST WV; rw [← et]
  have eA : accStep (TAB m c) (CST m c) (ib7 m c t) k0_pay3 = ACC m c (t.val + 1) := by rw [acc_next, h]; rfl
  unfold PhiL
  iintro ⟨⟨⟨⟨%fz, HS0⟩, ⟨%acc, HS1⟩, ⟨%tab, HS3⟩, ⟨%sc, HS2⟩, ⟨%cst, HS4⟩⟩, Hg⟩, Ho, H0, H1, H2, H3, H4, H5, H6, H7, ⟨%d8, H8⟩⟩
  iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sm0 (Memref.isWhole_whole _) sm1 (Memref.isWhole_whole _) sm2 (Memref.isWhole_whole _) sm3 (Memref.isWhole_whole _) sm4 (Memref.isWhole_whole _) ((at1 t).mpr (by omega)) ((at2 t).mpr (by omega)) (fun e => absurd ((at3 t).mp e) (by omega)) (fun e => absurd ((at4 t).mp e) (by omega)) (ib0 m c t) (ib1 m c t) (ib2 m c t) (ib3 m c t) (ib4 m c t) (ib5 m c t) (ib6 m c t) (ib7 m c t) ((dats m 0 c).before 8 t d8) fz acc sc tab cst Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  rw [eT, eC, eA]
  isplitl [HS0 HS1 HS3 HS2 HS4 Hg]
  · isplitl [HS0 HS1 HS3 HS2 HS4]
    · isplitl [HS0]
      · iexists _; isplitr
        swap; · iexact HS0
        ipureintro; exact fz_next m c t (by omega) fz (fun y hy => absurd hy (by omega))
      isplitl [HS1]; · iexact HS1
      isplitl [HS3]; · iexact HS3
      isplitl [HS2]; · iexists _; iexact HS2
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

theorem soundB (c : Dev nD) (t : Fin cfg0.N) (h : t.val ≠ 0) (h' : t.val < 8) :
    pre m (PhiL m c t.val) c t ⊢ wp frame (wpE (defs₀ (F := F)) Variants.none c none) Set.univ (bodyAt0 t) (fun _ => post m (PhiL m c (t.val + 1)) (iprop(∃ d, owns (c : Thread nD τ) (ms8 t) fullShare ((dats m 0 c).before 8 t d))) c t) := by
  unfold pre post bodyAt0
  have eA : accStep (TAB m c) (CST m c) (ib7 m c t) (ACC m c t.val) = ACC m c (t.val + 1) := (acc_next m c t).symm
  unfold PhiL
  iintro ⟨⟨⟨⟨%fz, %hfz, HS0⟩, HS1, HS3, ⟨%sc, HS2⟩, HS4⟩, Hg⟩, Ho, H0, H1, H2, H3, H4, H5, H6, H7, ⟨%d8, H8⟩⟩
  iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sm0 (Memref.isWhole_whole _) sm1 (Memref.isWhole_whole _) sm2 (Memref.isWhole_whole _) sm3 (Memref.isWhole_whole _) sm4 (Memref.isWhole_whole _) (fun e => absurd ((at1 t).mp e) (by omega)) ((at2 t).mpr (by omega)) (fun e => absurd ((at3 t).mp e) (by omega)) (fun e => absurd ((at4 t).mp e) (by omega)) (ib0 m c t) (ib1 m c t) (ib2 m c t) (ib3 m c t) (ib4 m c t) (ib5 m c t) (ib6 m c t) (ib7 m c t) ((dats m 0 c).before 8 t d8) fz (ACC m c t.val) sc (TAB m c) (CST m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  rw [eA]
  isplitl [HS0 HS1 HS3 HS2 HS4 Hg]
  · isplitl [HS0 HS1 HS3 HS2 HS4]
    · isplitl [HS0]
      · iexists _; isplitr
        swap; · iexact HS0
        ipureintro; exact fz_next m c t h' fz hfz
      isplitl [HS1]; · iexact HS1
      isplitl [HS3]; · iexact HS3
      isplitl [HS2]; · iexists _; iexact HS2
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

theorem soundC (c : Dev nD) (t : Fin cfg0.N) (h : t.val = 8) :
    pre m (PhiL m c t.val) c t ⊢ wp frame (wpE (defs₀ (F := F)) Variants.none c none) Set.univ (bodyAt0 t) (fun _ => post m (PhiR m c) (owns (c : Thread nD τ) (ms8 t) fullShare (OUT m c t)) c t) := by
  unfold pre post bodyAt0
  have et : pt 8 = t := by rw [← h]; exact pt_val t
  unfold PhiL PhiR
  iintro ⟨⟨⟨⟨%fz, %hfz, HS0⟩, HS1, HS3, ⟨%sc, HS2⟩, HS4⟩, Hg⟩, Ho, H0, H1, H2, H3, H4, H5, H6, H7, ⟨%d8, H8⟩⟩
  obtain rfl : fz = FZ m c := funext fun y => hfz y (by have : (y 0).val < 8 := (y 0).isLt; omega)
  have eS : scV (ACC m c t.val) (ib0 m c t) = SC m c := by unfold SC; rw [et, h]
  iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sm0 (Memref.isWhole_whole _) sm1 (Memref.isWhole_whole _) sm2 (Memref.isWhole_whole _) sm3 (Memref.isWhole_whole _) sm4 (Memref.isWhole_whole _) (fun e => absurd ((at1 t).mp e) (by omega)) (fun e => absurd ((at2 t).mp e) (by omega)) ((at3 t).mpr (by omega)) ((at4 t).mpr (by omega)) (ib0 m c t) (ib1 m c t) (ib2 m c t) (ib3 m c t) (ib4 m c t) (ib5 m c t) (ib6 m c t) (ib7 m c t) ((dats m 0 c).before 8 t d8) (FZ m c) (ACC m c t.val) sc (TAB m c) (CST m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  rw [eS]
  isplitl [HS0 HS1 HS3 HS2 HS4 Hg]
  · isplitl [HS0 HS1 HS3 HS2 HS4]
    · isplitl [HS0]; · iexact HS0
      isplitl [HS1]; · rw [h]; iexact HS1
      isplitl [HS3]; · iexact HS3
      isplitl [HS2]; · iexact HS2
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem soundD (c : Dev nD) (t : Fin cfg0.N) (h : 8 < t.val) :
    pre m (PhiR m c) c t ⊢ wp frame (wpE (defs₀ (F := F)) Variants.none c none) Set.univ (bodyAt0 t) (fun _ => post m (PhiR m c) (owns (c : Thread nD τ) (ms8 t) fullShare (OUT m c t)) c t) := by
  unfold pre post bodyAt0
  unfold PhiR
  iintro ⟨⟨⟨HS0, HS1, HS3, HS2, HS4⟩, Hg⟩, Ho, H0, H1, H2, H3, H4, H5, H6, H7, ⟨%d8, H8⟩⟩
  iapply (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sm0 (Memref.isWhole_whole _) sm1 (Memref.isWhole_whole _) sm2 (Memref.isWhole_whole _) sm3 (Memref.isWhole_whole _) sm4 (Memref.isWhole_whole _) (fun e => absurd ((at1 t).mp e) (by omega)) (fun e => absurd ((at2 t).mp e) (by omega)) (fun e => absurd ((at3 t).mp e) (by omega)) ((at4 t).mpr (by omega)) (ib0 m c t) (ib1 m c t) (ib2 m c t) (ib3 m c t) (ib4 m c t) (ib5 m c t) (ib6 m c t) (ib7 m c t) ((dats m 0 c).before 8 t d8) (FZ m c) (ACC m c 8) (SC m c) (TAB m c) (CST m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS3 HS2 HS4 Hg]
  · isplitl [HS0 HS1 HS3 HS2 HS4]
    · isplitl [HS0]; · iexact HS0
      isplitl [HS1]; · iexact HS1
      isplitl [HS3]; · iexact HS3
      isplitl [HS2]; · iexact HS2
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- What the pipeline calls the body with. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
/-- What it wants back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem pre_of (c : Dev nD) (t : Fin cfg0.N) (Ψ : sProp 𝕄) (h : (dats m 0 c).Φ t.castSucc = Ψ) : bodyPre m c t ⊢ pre m Ψ c t := by
  unfold bodyPre pre
  rw [h]
  simp only [before_0, before_1, before_2, before_3, before_4, before_5, before_6, before_7]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

theorem post_of (c : Dev nD) (t : Fin cfg0.N) (Ψ Θ : sProp 𝕄) (h : (dats m 0 c).Φ t.succ = Ψ) (h8 : (dats m 0 c).leavesExact 8 t = Θ) : post m Ψ Θ c t = bodyPost m c t := by
  unfold bodyPost post
  rw [h, h8, show (dats m 0 c).owesAt () t.succ = (dats m 0 c).owesAt () t.castSucc from rfl, leaves_0, leaves_1, leaves_2, leaves_3, leaves_4, leaves_5, leaves_6, leaves_7]

/-- The body's triple at any point. -/
theorem sound_body (c : Dev nD) (t : Fin cfg0.N) :
    bodyPre m c t ⊢ wp frame (wpE (defs₀ (F := F)) Variants.none c none) Set.univ (bodyAt0 t) (fun _ => bodyPost m c t) := by
  have hN := lt16 t
  rcases Nat.lt_trichotomy t.val 8 with h | h | h
  · by_cases h0 : t.val = 0
    · rw [← post_of m c t _ _ ((Phi_succ m c t).trans (Phi_low m c _ (by omega) (by omega))) (leaves_idle m c t h)]
      exact (pre_of m c t _ ((Phi_castSucc m c t).trans (by rw [h0]; exact Phi_zero m c))).trans (soundA m c t h0)
    · rw [← post_of m c t _ _ ((Phi_succ m c t).trans (Phi_low m c _ (by omega) (by omega))) (leaves_idle m c t h)]
      exact (pre_of m c t _ ((Phi_castSucc m c t).trans (Phi_low m c _ h0 (by omega)))).trans (soundB m c t h0 h)
  · rw [← post_of m c t _ _ ((Phi_succ m c t).trans (Phi_high m c _ (by omega))) (leaves_live m c t (by omega))]
    exact (pre_of m c t _ ((Phi_castSucc m c t).trans (Phi_low m c _ (by omega) (by omega)))).trans (soundC m c t h)
  · rw [← post_of m c t _ _ ((Phi_succ m c t).trans (Phi_high m c _ (by omega))) (leaves_live m c t (by omega))]
    exact (pre_of m c t _ ((Phi_castSucc m c t).trans (Phi_high m c _ h))).trans (soundD m c t h)

theorem defs_row (t : Fin cfg0.N) :
    defs₀ (F := F) .tc cfg0.body (cfg0.bodyArgs t (cfg0.slots t)) = bodyAt0 t := by
  unfold defs₀; rw [Defs.onTc_tc]

/-- The library's obligation at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

end Cert.KernelIdeal.Hand

end
-- ==== Proof.KernelIdealLaunch.lean ====
/- The kernel's run: it stops, its arguments unchanged, and what its arrays hold. -/
module

public import proofs.«01_k».proof.Proof.KernelIdealBody
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hin (c : Dev nD) : Pipeline.ΦA spec0 c ⊢ (dats m 0 c).Φ 0 := by
  rw [show (dats m 0 c).Φ 0 = Phi m c 0 from rfl, Phi_zero]

theorem hout (c : Dev nD) : (dats m 0 c).Φ (Fin.last cfg0.N) ⊢ Pipeline.ΦA spec0 c := by
  rw [show (dats m 0 c).Φ (Fin.last cfg0.N) = Phi m c cfg0.N from rfl, Phi_high m c _ (by have : cfg0.N = 16 := N_0; omega), start_eq]
  unfold PhiR
  iintro ⟨⟨HS0, HS1, HS3, HS2, HS4⟩, Hg⟩
  isplitl [HS0 HS1 HS3 HS2 HS4]
  · isplitl [HS0]; · iexists _; iexact HS0
    isplitl [HS1]; · iexists _; iexact HS1
    isplitl [HS3]; · iexists _; iexact HS3
    isplitl [HS2]; · iexists _; iexact HS2
    iexists _; iexact HS4
  iexact Hg

set_option backward.isDefEq.respectTransparency.types false in
set_option maxHeartbeats 800000 in
/-- The whole program from any memory: the arrays end as the proof data say, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (hQ' := fun _ h => h)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Hand

end
-- ==== Proof.Frames.lean ====
/- The frames: each program stops with its arguments unchanged and every counter at zero; and the kernel's
   named constants are the rationals they are named for. -/
module

public import proofs.«01_k».proof.Defs
public import proofs.«01_k».proof.Proof.KernelLaunch
public import proofs.«01_k».proof.Proof.KernelIdealLaunch
public import proofs.«01_k».proof.Proof.Gen.ReferenceIdeal.Run
public import Idealize.ShloMosaic.Lib.Quiescent

@[expose] public section

noncomputable section

namespace Cert.Frames

open Idealize.ShloMosaic Idealize.SL.Sem

/-- The kernel over floats stops with its arguments unchanged and every counter at zero. -/
theorem frame_p : Cert.quiescent_Kernel := fun m ρ _ => Cert.Kernel.Hand.frame m ρ
/-- The kernel over the reals stops with its arguments unchanged and every counter at zero. -/
theorem frame_pi : Cert.quiescent_KernelIdeal := fun m ρ _ => Cert.KernelIdeal.Hand.frame m ρ
/-- The reference over the reals stops with its arguments unchanged and every counter at zero. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same of the kernel, from arguments that satisfy the precondition. -/
theorem frame_pi_pre [Cert.Pre_finite.Facts] : Cert.quiescent_KernelIdeal_pre_finite := fun m ρ _ => Cert.KernelIdeal.Hand.frame m ρ
/-- The same of the reference, from arguments that satisfy the precondition. -/
theorem frame_ri_pre [Cert.Pre_finite.Facts] : Cert.quiescent_ReferenceIdeal_pre_finite := fun m ρ _ => frame_ri m ρ trivial

/-- The kernel's three named constants denote the rationals their names are given. -/
theorem preserves : Cert.preserves_Kernel_KernelIdeal :=
  ⟨IdealRules.named_const.statement Cert.KernelIdeal.κ "dt" .f32 0x3C76603E#32 ((2 / 133 : ℝ) : EReal) rfl,
   IdealRules.named_const.statement Cert.KernelIdeal.κ "half_dt" .f32 0x3BF6603E#32 ((1 / 133 : ℝ) : EReal) rfl,
   IdealRules.named_const.statement Cert.KernelIdeal.κ "inv_65535" .f32 0x37800080#32 ((1 / 65535 : ℝ) : EReal) rfl⟩

end Cert.Frames

end
-- ==== Proof.Real.lean ====
/-
  The mathematics both programs compute, over the reals: the table of 400 points, its rounding to 16 bits, the sample
  function, and the two forms of the variance.
-/
module

public import Mathlib.Data.EReal.Operations
public import Mathlib.Algebra.BigOperators.Field
public import Mathlib.Algebra.Order.Floor.Ring
public import Mathlib.Data.Finset.Lattice.Fold
public import Mathlib.Tactic.Linarith
public import Mathlib.Tactic.Ring
public import Mathlib.Tactic.FieldSimp
public import Mathlib.Tactic.Positivity
public import Mathlib.Tactic.NormNum

@[expose] public section

noncomputable section

namespace Cert.Spec

open Finset

/-- The `k`-th of the 400 points of [-3, 3]. -/
def point (k : ℕ) : ℝ := -3 + 2 / 133 * k

/-- The integral of the slopes `w` up to point `k`, by the trapezoid rule. -/
def cum (w : ℕ → ℝ) (k : ℕ) : ℝ := ∑ j ∈ range k, 1 / 133 * (w j + w (j + 1))

/-- The intercept of the line through point `k` with slope `w k`. -/
def icept (w : ℕ → ℝ) (k : ℕ) : ℝ := cum w k - point k * w k

/-- The smallest of 400 values and `pad`. -/
def low (x : ℕ → ℝ) (pad : ℝ) : ℝ := min ((range 400).inf' ⟨0, by simp⟩ x) pad

/-- The largest of 400 values and `pad`. -/
def high (x : ℕ → ℝ) (pad : ℝ) : ℝ := max ((range 400).sup' ⟨0, by simp⟩ x) pad

/-- The least step allowed, the number the word of 1e-30 stands for. -/
def tiny : ℝ := 10633824 * (2 : ℝ) ^ (-123 : ℤ)

/-- The step of the 16-bit grid. -/
def step (x : ℕ → ℝ) (pad : ℝ) : ℝ := max ((high x pad - low x pad) / 65535) tiny

/-- The grid cell of the value `v`. -/
def cell (x : ℕ → ℝ) (pad v : ℝ) : ℤ := ⌊(v - low x pad) / step x pad + 1 / 2⌋

/-- The value `v` moved to the grid. -/
def snap (x : ℕ → ℝ) (pad v : ℝ) : ℝ := cell x pad v * step x pad + low x pad

/-- The line a sample falls on. -/
def pick (z : ℝ) : ℕ := if 3 < z then 399 else ⌊min 398 (max 0 ((z + 3) * (133 / 2)))⌋₊

/-- The rounded intercepts. -/
def icept16 (w : ℕ → ℝ) (k : ℕ) : ℝ := snap (icept w) 0 (icept w k)

/-- The rounded slopes. -/
def slope16 (w : ℕ → ℝ) (k : ℕ) : ℝ := snap w 1 (w k)

/-- The interpolated sample. -/
def sample (w : ℕ → ℝ) (z : ℝ) : ℝ := slope16 w (pick z) * z + icept16 w (pick z)

/-- The least step is positive. -/
theorem tiny_pos : 0 < tiny := by unfold tiny; positivity

/-- The step of a grid is positive. -/
theorem step_pos (x : ℕ → ℝ) (pad : ℝ) : 0 < step x pad := lt_of_lt_of_le tiny_pos (le_max_right _ _)

/-- `low` is below each value. -/
theorem low_le (x : ℕ → ℝ) (pad : ℝ) {k : ℕ} (h : k < 400) : low x pad ≤ x k :=
  (min_le_left _ _).trans (inf'_le _ (mem_range.2 h))

/-- Each value is below `high`. -/
theorem le_high (x : ℕ → ℝ) (pad : ℝ) {k : ℕ} (h : k < 400) : x k ≤ high x pad :=
  (le_sup' _ (mem_range.2 h)).trans (le_max_left _ _)

/-- `low` is below the pad. -/
theorem low_le_pad (x : ℕ → ℝ) (pad : ℝ) : low x pad ≤ pad := min_le_right _ _

/-- The pad is below `high`. -/
theorem pad_le_high (x : ℕ → ℝ) (pad : ℝ) : pad ≤ high x pad := le_max_right _ _

/-- A lower bound of the values and the pad is below `low`. -/
theorem le_low {x : ℕ → ℝ} {pad v : ℝ} (h : ∀ k < 400, v ≤ x k) (hp : v ≤ pad) : v ≤ low x pad :=
  le_min (le_inf' _ _ fun k hk => h k (mem_range.1 hk)) hp

/-- An upper bound of the values and the pad is above `high`. -/
theorem high_le {x : ℕ → ℝ} {pad v : ℝ} (h : ∀ k < 400, x k ≤ v) (hp : pad ≤ v) : high x pad ≤ v :=
  max_le (sup'_le _ _ fun k hk => h k (mem_range.1 hk)) hp

/-- The quotient before it is rounded lies in [0, 65535]. -/
theorem ratio_bounds {x : ℕ → ℝ} {pad v : ℝ} (h0 : low x pad ≤ v) (h1 : v ≤ high x pad) :
    0 ≤ (v - low x pad) / step x pad ∧ (v - low x pad) / step x pad ≤ 65535 := by
  have hs := step_pos x pad
  refine ⟨div_nonneg (by linarith) hs.le, (div_le_iff₀ hs).2 ?_⟩
  have : (high x pad - low x pad) / 65535 ≤ step x pad := le_max_left _ _
  rw [div_le_iff₀ (by norm_num)] at this
  linarith

/-- A cell is a number of 16 bits. -/
theorem cell_bounds {x : ℕ → ℝ} {pad v : ℝ} (h0 : low x pad ≤ v) (h1 : v ≤ high x pad) :
    0 ≤ cell x pad v ∧ cell x pad v ≤ 65535 := by
  obtain ⟨a, b⟩ := ratio_bounds h0 h1
  refine ⟨Int.floor_nonneg.2 (by linarith), ?_⟩
  have : cell x pad v < 65536 := Int.floor_lt.2 (by push_cast; linarith)
  omega

/-- The number of a sample's line is below 400. -/
theorem pick_lt (z : ℝ) : pick z < 400 := by
  unfold pick
  split_ifs with h
  · norm_num
  · refine (Nat.floor_lt (by positivity)).2 ?_
    exact lt_of_le_of_lt (min_le_left _ _) (by norm_num)

/-- The sum over all numbers below `a * b`, in rows of `b`. -/
theorem sum_rows {M : Type*} [AddCommMonoid M] (f : ℕ → M) (a b : ℕ) :
    ∑ n ∈ range (a * b), f n = ∑ i ∈ range a, ∑ j ∈ range b, f (i * b + j) := by
  induction a with
  | zero => simp
  | succ a ih => rw [Nat.add_mul, one_mul, sum_range_add, ih, sum_range_succ]

/-- A sum of reals, read in the extended reals. -/
theorem coe_sum (s : Finset ℕ) (f : ℕ → ℝ) : ((∑ n ∈ s, f n : ℝ) : EReal) = ∑ n ∈ s, (f n : EReal) := by
  induction s using Finset.cons_induction with
  | empty => simp
  | cons a s h ih => rw [sum_cons, sum_cons, EReal.coe_add, ih]

/-- The sum of squared deviations from the mean. -/
theorem sum_dev (f : ℕ → ℝ) (n : ℕ) (hn : (n : ℝ) ≠ 0) :
    ∑ i ∈ range n, (f i - (∑ j ∈ range n, f j) / n) * (f i - (∑ j ∈ range n, f j) / n)
      = ∑ i ∈ range n, f i * f i - (∑ j ∈ range n, f j) * (∑ j ∈ range n, f j) / n := by
  set S := ∑ j ∈ range n, f j
  have : ∀ i, (f i - S / n) * (f i - S / n) = f i * f i - 2 * (S / n) * f i + S / n * (S / n) := fun i => by ring
  simp only [this, sum_add_distrib, sum_sub_distrib, ← mul_sum, sum_const, card_range, nsmul_eq_mul]
  change _ - 2 * (S / n) * S + _ = _
  field_simp
  ring

end Cert.Spec
-- ==== Proof.Consts.lean ====
/-
  The literals of the two programs as real numbers, and the named constants of the kernel.
-/
module

public import proofs.«01_k».proof.KernelIdeal
public import proofs.«01_k».proof.Proof.Real
public import Idealize.ShloMosaic.PureOps.IdealRules

@[expose] public section

noncomputable section

namespace Cert.Consts

open Idealize.ShloMosaic

theorem c_zero : Ideal.ofBits .f32 0x00000000#32 = ((0 : ℝ) : EReal) := by
  simp [Ideal.ofBits, Ideal.ieee, -EReal.coe_mul]

theorem c_one : Ideal.ofBits .f32 0x3F800000#32 = ((1 : ℝ) : EReal) := by
  simp [Ideal.ofBits, Ideal.ieee, -EReal.coe_mul]; norm_num

theorem c_neg_one : Ideal.ofBits .f32 0xBF800000#32 = ((-1 : ℝ) : EReal) := by
  simp [Ideal.ofBits, Ideal.ieee, -EReal.coe_mul]; norm_num

theorem c_half : Ideal.ofBits .f32 0x3F000000#32 = ((1 / 2 : ℝ) : EReal) := by
  simp [Ideal.ofBits, Ideal.ieee, -EReal.coe_mul]; norm_num

theorem c_three : Ideal.ofBits .f32 0x40400000#32 = ((3 : ℝ) : EReal) := by
  simp [Ideal.ofBits, Ideal.ieee, -EReal.coe_mul]; norm_num

theorem c_neg_three : Ideal.ofBits .f32 0xC0400000#32 = ((-3 : ℝ) : EReal) := by
  simp [Ideal.ofBits, Ideal.ieee, -EReal.coe_mul]; norm_num

theorem c_six : Ideal.ofBits .f32 0x40C00000#32 = ((6 : ℝ) : EReal) := by
  simp [Ideal.ofBits, Ideal.ieee, -EReal.coe_mul]; norm_num

theorem c_399 : Ideal.ofBits .f32 0x43C78000#32 = ((399 : ℝ) : EReal) := by
  simp [Ideal.ofBits, Ideal.ieee, -EReal.coe_mul]; norm_num

theorem c_398 : Ideal.ofBits .f32 0x43C70000#32 = ((398 : ℝ) : EReal) := by
  simp [Ideal.ofBits, Ideal.ieee, -EReal.coe_mul]; norm_num

theorem c_66_5 : Ideal.ofBits .f32 0x42850000#32 = ((133 / 2 : ℝ) : EReal) := by
  simp [Ideal.ofBits, Ideal.ieee, -EReal.coe_mul]; norm_num

theorem c_32768 : Ideal.ofBits .f32 0x47000000#32 = ((32768 : ℝ) : EReal) := by
  simp [Ideal.ofBits, Ideal.ieee, -EReal.coe_mul]; norm_num

theorem c_65535 : Ideal.ofBits .f32 0x477FFF00#32 = ((65535 : ℝ) : EReal) := by
  simp [Ideal.ofBits, Ideal.ieee, -EReal.coe_mul]; norm_num

theorem c_count : Ideal.ofBits .f32 0x4B000000#32 = ((8388608 : ℝ) : EReal) := by
  simp [Ideal.ofBits, Ideal.ieee, -EReal.coe_mul]

theorem c_tiny : Ideal.ofBits .f32 0x0DA24260#32 = (Spec.tiny : EReal) := by
  unfold Spec.tiny
  simp [Ideal.ofBits, Ideal.ieee, -EReal.coe_mul]

theorem c_top : Ideal.ofBits .f32 0x7F800000#32 = ⊤ := by
  simp [Ideal.ofBits, Ideal.ieee]

theorem c_bot : Ideal.ofBits .f32 0xFF800000#32 = ⊥ := by
  simp [Ideal.ofBits, Ideal.ieee]

/-- The floor put under the standard deviation. -/
def sigFloor : ℝ := 8796093 * (2 : ℝ) ^ (-43 : ℤ)

/-- The amount added to the scale. -/
def scaleAdd : ℝ := 8589935 * (2 : ℝ) ^ (-33 : ℤ)

theorem sigFloor_pos : 0 < sigFloor := by unfold sigFloor; positivity

theorem c_sigFloor : Ideal.ofBits .f32 0x358637BD#32 = (sigFloor : EReal) := by
  unfold sigFloor
  simp [Ideal.ofBits, Ideal.ieee, -EReal.coe_mul]

theorem c_scaleAdd : Ideal.ofBits .f32 0x3A83126F#32 = (scaleAdd : EReal) := by
  unfold scaleAdd
  simp [Ideal.ofBits, Ideal.ieee, -EReal.coe_mul]

theorem n_dt : Named.named (F := Ideal) Cert.KernelIdeal.κ "dt" (φ := .f32) 0x3C76603E#32 = ((2 / 133 : ℝ) : EReal) :=
  IdealRules.named_const.ideal_named_scalar _ _ _ _ rfl

theorem n_half_dt : Named.named (F := Ideal) Cert.KernelIdeal.κ "half_dt" (φ := .f32) 0x3BF6603E#32 = ((1 / 133 : ℝ) : EReal) :=
  IdealRules.named_const.ideal_named_scalar _ _ _ _ rfl

theorem n_inv : Named.named (F := Ideal) Cert.KernelIdeal.κ "inv_65535" (φ := .f32) 0x37800080#32 = ((1 / 65535 : ℝ) : EReal) :=
  IdealRules.named_const.ideal_named_scalar _ _ _ _ rfl

end Cert.Consts
-- ==== Proof.Folds.lean ====
/-
  Facts on numbers and words both programs need: least and greatest entries, the packing of two 16-bit codes in one
  word, and the conversions between words and reals.
-/
module

public import proofs.«01_k».proof.Proof.Consts
public import Idealize.ShloMosaic.Lib.WordCmp

@[expose] public section

noncomputable section

namespace Cert.Spec

open Finset Idealize.ShloMosaic

/-- A lower bound that is reached is the least entry. -/
theorem fold_min_of {ι : Type*} (s : Finset ι) (f : ι → EReal) (r : EReal) (h : ∀ i ∈ s, r ≤ f i) (h' : ∃ i ∈ s, f i ≤ r) :
    s.fold min ⊤ f = r :=
  le_antisymm ((fold_min_le _).2 (Or.inr h')) ((le_fold_min _).2 ⟨le_top, h⟩)

/-- An upper bound that is reached is the greatest entry. -/
theorem fold_max_of {ι : Type*} (s : Finset ι) (f : ι → EReal) (r : EReal) (h : ∀ i ∈ s, f i ≤ r) (h' : ∃ i ∈ s, r ≤ f i) :
    s.fold max ⊥ f = r :=
  le_antisymm ((fold_max_le _).2 ⟨bot_le, h⟩) ((le_fold_max _).2 (Or.inr h'))

/-- The least value or the pad is one of them. -/
theorem low_mem (x : ℕ → ℝ) (pad : ℝ) : (∃ k < 400, x k = low x pad) ∨ pad = low x pad := by
  unfold low
  rcases min_choice ((range 400).inf' ⟨0, by simp⟩ x) pad with h | h
  · obtain ⟨k, hk, e⟩ := exists_mem_eq_inf' (s := range 400) ⟨0, by simp⟩ x
    exact Or.inl ⟨k, mem_range.1 hk, by rw [h, e]⟩
  · exact Or.inr h.symm

/-- The greatest value or the pad is one of them. -/
theorem high_mem (x : ℕ → ℝ) (pad : ℝ) : (∃ k < 400, x k = high x pad) ∨ pad = high x pad := by
  unfold high
  rcases max_choice ((range 400).sup' ⟨0, by simp⟩ x) pad with h | h
  · obtain ⟨k, hk, e⟩ := exists_mem_eq_sup' (s := range 400) ⟨0, by simp⟩ x
    exact Or.inl ⟨k, mem_range.1 hk, by rw [h, e]⟩
  · exact Or.inr h.symm

/-- A number not negative and in range, turned into a word. -/
theorem fptosi_floor {r : ℝ} (h0 : 0 ≤ r) (h1 : ⌊r⌋ ≤ 65535) : Ideal.fptosi 32 (r : EReal) = BitVec.ofInt 32 ⌊r⌋ := by
  have : 0 ≤ ⌊r⌋ := Int.floor_nonneg.2 h0
  rw [Ideal.fptosi, Ideal.toIntClamped_coe, if_pos h0]
  congr 1
  norm_num
  omega

/-- A cell read from its word. -/
theorem toInt_cell {c : ℤ} (h0 : 0 ≤ c) (h1 : c ≤ 65535) : (BitVec.ofInt 32 c).toInt = c := by
  rw [BitVec.toInt_ofInt]
  norm_num [Int.bmod]
  omega

/-- The word that packs two 16-bit codes, the first shifted by 32768. -/
def packed (a b : ℤ) : BitVec 32 :=
  IntOp.ori (IntOp.shli .vector (IntOp.subi (BitVec.ofInt 32 a) 32768#32) 16#32) (BitVec.ofInt 32 b)

/-- A packed word as a number: the biased code in the upper half, the other in the lower. -/
theorem packed_toNat {a b : ℤ} (ha0 : 0 ≤ a) (ha1 : a ≤ 65535) (hb0 : 0 ≤ b) (hb1 : b ≤ 65535) :
    (packed a b).toNat = (a.toNat + 32768) % 65536 * 65536 + b.toNat := by
  obtain ⟨a, rfl⟩ := Int.eq_ofNat_of_zero_le ha0
  obtain ⟨b, rfl⟩ := Int.eq_ofNat_of_zero_le hb0
  have hb : b < 2 ^ 16 := by omega
  have ha : a < 2 ^ 16 := by omega
  have e : (BitVec.ofInt 32 (b : ℤ)).toNat = b := by
    rw [BitVec.toNat_ofInt]; omega
  have e' : (IntOp.shli .vector (IntOp.subi (BitVec.ofInt 32 (a : ℤ)) 32768#32) 16#32).toNat = ((a + 32768) % 65536) <<< 16 := by
    rw [IntOp.shli, if_pos (by decide), IntOp.subi]
    simp only [BitVec.shiftLeft_eq', BitVec.toNat_shiftLeft, BitVec.toNat_sub, BitVec.toNat_ofInt, BitVec.toNat_ofNat, Nat.shiftLeft_eq]
    norm_num
    omega
  unfold packed
  rw [IntOp.ori, BitVec.toNat_or, e, e', ← Nat.shiftLeft_add_eq_or_of_lt hb, Nat.shiftLeft_eq]
  simp

/-- The second code, read back. -/
theorem packed_low {a b : ℤ} (ha0 : 0 ≤ a) (ha1 : a ≤ 65535) (hb0 : 0 ≤ b) (hb1 : b ≤ 65535) :
    (IntOp.andi (packed a b) 65535#32).toInt = b := by
  have e : (IntOp.andi (packed a b) 65535#32).toNat = b.toNat := by
    rw [IntOp.andi, BitVec.toNat_and, packed_toNat ha0 ha1 hb0 hb1,
      show (65535#32).toNat = 2 ^ 16 - 1 from rfl, Nat.and_two_pow_sub_one_eq_mod]
    omega
  rw [BitVec.toInt_eq_toNat_cond, e]
  split_ifs <;> omega

/-- The first code, read back. -/
theorem packed_high {a b : ℤ} (ha0 : 0 ≤ a) (ha1 : a ≤ 65535) (hb0 : 0 ≤ b) (hb1 : b ≤ 65535) :
    (IntOp.shrsi .vector (packed a b) 16#32).toInt = a - 32768 := by
  rw [IntOp.shrsi, if_pos (by decide), BitVec.sshiftRight_eq', BitVec.toInt_sshiftRight, Int.shiftRight_eq_div_pow,
    BitVec.toInt_eq_toNat_cond, packed_toNat ha0 ha1 hb0 hb1]
  generalize ha : (a.toNat + 32768) % 65536 = c
  generalize hb : b.toNat = d
  have e : (16#32).toNat = 16 := rfl
  rw [e]
  split_ifs <;> omega

/-- The greater of two reals, taken among the extended reals. -/
theorem coe_max (a b : ℝ) : ((max a b : ℝ) : EReal) = max (a : EReal) (b : EReal) := EReal.coe_strictMono.monotone.map_max

/-- The lesser of two reals, taken among the extended reals. -/
theorem coe_min (a b : ℝ) : ((min a b : ℝ) : EReal) = min (a : EReal) (b : EReal) := EReal.coe_strictMono.monotone.map_min

/-- The number of a sample's line, in words. -/
theorem pick_word (r : ℝ) :
    (if ((3 : ℝ) : EReal) < (r : EReal) then 399#32
      else Ideal.fptosi 32 (min ((398 : ℝ) : EReal) (max ((0 : ℝ) : EReal) (((r : EReal) - ((-3 : ℝ) : EReal)) * ((133 / 2 : ℝ) : EReal)))))
      = BitVec.ofNat 32 (pick r) := by
  unfold pick
  by_cases h : 3 < r
  · rw [if_pos h, if_pos (EReal.coe_lt_coe_iff.2 h)]
  · rw [if_neg h, if_neg (fun g => h (EReal.coe_lt_coe_iff.1 g))]
    have e : r - -3 = r + 3 := by ring
    rw [← EReal.coe_sub, ← EReal.coe_mul, ← coe_max, ← coe_min, e, max_comm 0]
    have h0 : 0 ≤ min 398 (max ((r + 3) * (133 / 2)) 0) := by positivity
    have h1 : ⌊min 398 (max ((r + 3) * (133 / 2)) 0)⌋ ≤ 398 := Int.floor_le_iff.2 (lt_of_le_of_lt (min_le_left _ _) (by norm_num))
    rw [fptosi_floor h0 (by omega), ← Int.natCast_floor_eq_floor h0]
    rfl

/-- The trapezoid sum as a weighted sum over a longer range. -/
theorem cum_eq (u : ℕ → ℝ) (n k : ℕ) (h : k ≤ n) :
    ∑ j ∈ range (n + 1), u j * (((if j < k then 1 else 0) + (if 1 ≤ j ∧ j ≤ k then 1 else 0)) * (1 / 133)) = cum u k := by
  have e1 : ∑ j ∈ range (n + 1), (if j < k then u j else 0) = ∑ j ∈ range k, u j := by
    rw [← sum_filter]
    congr 1
    ext j
    simp only [mem_filter, mem_range]
    omega
  have e2 : ∑ j ∈ range (n + 1), (if 1 ≤ j ∧ j ≤ k then u j else 0) = ∑ j ∈ range k, u (j + 1) := by
    rw [sum_range_succ']
    rw [if_neg (by omega), add_zero, ← sum_filter]
    congr 1
    ext j
    simp only [mem_filter, mem_range]
    omega
  unfold cum
  rw [← mul_sum, sum_add_distrib, ← e1, ← e2, ← sum_add_distrib, mul_sum]
  refine sum_congr rfl fun j _ => ?_
  split_ifs <;> ring

end Cert.Spec
-- ==== Proof.TableKernel.lean ====
/-
  The kernel's table over the reals: 400 intercepts and slopes, rounded to 16 bits and packed in words.
-/
module

public import proofs.«01_k».proof.Proof.KernelIdealSpec
public import proofs.«01_k».proof.Proof.Folds

@[expose] public section

set_option maxRecDepth 16384

noncomputable section

namespace Cert.KernelIdeal.Hand

open Cert.KernelIdeal.Gen Cert.Consts Cert.Spec
open Idealize.ShloMosaic Idealize.ShloMosaic.Tactic

/-- The 512 lanes of the intercepts. -/
def laneA (u : ℕ → ℝ) (k : ℕ) : ℝ := if k < 400 then icept u k else 0

/-- The 512 lanes of the slopes. -/
def laneB (u : ℕ → ℝ) (k : ℕ) : ℝ := if k < 400 then u k else 1

/-- A bit as a number is 0 or 1. -/
theorem sitofp_bool (b : Bool) :
    FloatOps.sitofp (F := Ideal) FTy.f32 (BitVec.setWidth 32 (BitVec.ofBool b)) = (((if b then 1 else 0 : ℝ)) : EReal) := by
  cases b <;> simp [FloatOps.sitofp]

/-- A lane's number as a real is itself. -/
theorem sitofp_nat (n : ℕ) (h : n < 512) : FloatOps.sitofp (F := Ideal) FTy.f32 (BitVec.ofNat 32 n) = ((n : ℝ) : EReal) := by
  have e : (BitVec.ofNat 32 n).toInt = n := WordCmp.toInt_ofNat_of_lt (by norm_num; omega)
  simp [FloatOps.sitofp, e]

variable {w : FVec Ideal S1x512 .f32} {u : ℕ → ℝ}

/-- A lane of the intercepts, 0 in the padded lanes. -/
theorem pay10_lane (hw : ∀ k : Fin 512, w (ix2 0 k) = (u k : EReal)) (k : Fin 512) :
    k0_pay10 w k0_pay7 k0_pay8 (ix2 0 k) = (laneA u k : EReal) := by
  pointwise [k0_pay10, k0_pay7, k0_pay8, k0_pay9]
  have hk := k.isLt
  have l (n : ℕ) (h : n < 512) : n < 2 ^ (32 - 1) := by norm_num; omega
  rw [WordCmp.cmpi_slt_ofNat (l _ hk) (l 400 (by decide)), c_neg_three, n_dt, n_half_dt, sitofp_nat _ hk]
  unfold laneA Scalar.select
  by_cases h : k.val < 400
  · rw [if_pos (by simp [h]), if_pos h]
    have e (x : Fin 512) : w (ix2 0 x) *
          ((FloatOps.sitofp (F := Ideal) FTy.f32 (BitVec.setWidth 32 (IntOp.cmpi CmpIPredicate.slt (BitVec.ofNat 32 x) (BitVec.ofNat 32 k)))
            + FloatOps.sitofp (F := Ideal) FTy.f32 (BitVec.setWidth 32 (IntOp.andi (IntOp.cmpi CmpIPredicate.sge (BitVec.ofNat 32 x) 1#32)
              (IntOp.cmpi CmpIPredicate.sle (BitVec.ofNat 32 x) (BitVec.ofNat 32 k))))) * ((1 / 133 : ℝ) : EReal))
        = ((fun j : ℕ => (((u j * (((if j < k.val then 1 else 0) + (if 1 ≤ j ∧ j ≤ k.val then 1 else 0)) * (1 / 133)) : ℝ)) : EReal)) x.val) := by
      have hx := x.isLt
      rw [WordCmp.cmpi_slt_ofNat (l _ hx) (l _ hk), WordCmp.cmpi_sge_ofNat (l _ hx) (l 1 (by decide)), WordCmp.cmpi_sle_ofNat (l _ hx) (l _ hk),
        sitofp_bool, hw x,
        show IntOp.andi (BitVec.ofBool (decide (1 ≤ x.val))) (BitVec.ofBool (decide (x.val ≤ k.val))) = BitVec.ofBool (decide (1 ≤ x.val ∧ x.val ≤ k.val)) by
          by_cases h1 : 1 ≤ x.val <;> by_cases h2 : x.val ≤ k.val <;> simp [h1, h2, IntOp.andi],
        sitofp_bool]
      simp only [decide_eq_true_eq]
      rw [← EReal.coe_add, ← EReal.coe_mul, ← EReal.coe_mul]
    rw [Finset.sum_congr rfl fun x _ => e x, Fin.sum_univ_eq_sum_range
      (fun j : ℕ => (((u j * (((if j < k.val then 1 else 0) + (if 1 ≤ j ∧ j ≤ k.val then 1 else 0)) * (1 / 133)) : ℝ)) : EReal)) 512,
      ← coe_sum, cum_eq u 511 k (by omega), hw k, ← EReal.coe_mul, ← EReal.coe_add, ← EReal.coe_mul, ← EReal.coe_sub]
    rfl
  · rw [if_neg (by simp [h]), if_neg h]
    rfl

/-- A lane of the slopes, 1 in the padded lanes. -/
theorem pay11_lane (hw : ∀ k : Fin 512, w (ix2 0 k) = (u k : EReal)) (k : Fin 512) :
    k0_pay11 w (ix2 0 k) = (laneB u k : EReal) := by
  pointwise [k0_pay11, k0_pay9]
  have hk := k.isLt
  have l (n : ℕ) (h : n < 512) : n < 2 ^ (32 - 1) := by norm_num; omega
  rw [WordCmp.cmpi_slt_ofNat (l _ hk) (l 400 (by decide)), hw k]
  unfold laneB Scalar.select
  by_cases h : k.val < 400
  · rw [if_pos (by simp [h]), if_pos h]
  · rw [if_neg (by simp [h]), if_neg h]
    rfl

/-- The least of the 512 lanes, 400 values and the pad. -/
theorem least_lane (x : ℕ → ℝ) (pad : ℝ) (f : Fin 1 × Fin 512 → EReal) (hf : ∀ i, f i = (((if i.2.val < 400 then x i.2 else pad : ℝ)) : EReal)) :
    Finset.fold min (Ideal.ofBits FTy.f32 2139095040#32) f Finset.univ = (low x pad : EReal) := by
  rw [c_top]
  refine fold_min_of _ _ _ (fun i _ => ?_) ?_
  · rw [hf, EReal.coe_le_coe_iff]
    split_ifs with h
    · exact low_le x pad h
    · exact low_le_pad x pad
  · rcases low_mem x pad with ⟨k, hk, e⟩ | e
    · refine ⟨(0, ⟨k, by omega⟩), Finset.mem_univ _, le_of_eq ?_⟩
      rw [hf, ← e, if_pos hk]
    · refine ⟨(0, ⟨400, by omega⟩), Finset.mem_univ _, le_of_eq ?_⟩
      rw [hf, if_neg (by simp)]
      exact congrArg _ e

/-- The greatest of the 512 lanes. -/
theorem greatest_lane (x : ℕ → ℝ) (pad : ℝ) (f : Fin 1 × Fin 512 → EReal) (hf : ∀ i, f i = (((if i.2.val < 400 then x i.2 else pad : ℝ)) : EReal)) :
    Finset.fold max (Ideal.ofBits FTy.f32 4286578688#32) f Finset.univ = (high x pad : EReal) := by
  rw [c_bot]
  refine fold_max_of _ _ _ (fun i _ => ?_) ?_
  · rw [hf, EReal.coe_le_coe_iff]
    split_ifs with h
    · exact le_high x pad h
    · exact pad_le_high x pad
  · rcases high_mem x pad with ⟨k, hk, e⟩ | e
    · refine ⟨(0, ⟨k, by omega⟩), Finset.mem_univ _, le_of_eq ?_⟩
      rw [hf, ← e, if_pos hk]
    · refine ⟨(0, ⟨400, by omega⟩), Finset.mem_univ _, le_of_eq ?_⟩
      rw [hf, if_neg (by simp)]
      exact (congrArg _ e).symm

/-- The least intercept. -/
theorem pay12_eq (hw : ∀ k : Fin 512, w (ix2 0 k) = (u k : EReal)) : k0_pay12 w k0_pay7 k0_pay8 = (low (icept u) 0 : EReal) := by
  pointwise [k0_pay12]
  exact least_lane (icept u) 0 _ fun i => pay10_lane hw i.2

/-- The step of the intercepts' grid. -/
theorem pay13_eq (hw : ∀ k : Fin 512, w (ix2 0 k) = (u k : EReal)) :
    k0_pay13 w k0_pay7 k0_pay8 = (step (icept u) 0 : EReal) := by
  pointwise [k0_pay13]
  rw [greatest_lane (icept u) 0 _ fun i => pay10_lane hw i.2, pay12_eq hw, n_inv, c_tiny, ← EReal.coe_sub, ← EReal.coe_mul, ← coe_max,
    mul_one_div]
  rfl

/-- The least slope. -/
theorem pay14_eq (hw : ∀ k : Fin 512, w (ix2 0 k) = (u k : EReal)) : k0_pay14 w = (low u 1 : EReal) := by
  pointwise [k0_pay14]
  exact least_lane u 1 _ fun i => pay11_lane hw i.2

/-- The step of the slopes' grid. -/
theorem pay15_eq (hw : ∀ k : Fin 512, w (ix2 0 k) = (u k : EReal)) : k0_pay15 w = (step u 1 : EReal) := by
  pointwise [k0_pay15]
  rw [greatest_lane u 1 _ fun i => pay11_lane hw i.2, pay14_eq hw, n_inv, c_tiny, ← EReal.coe_sub, ← EReal.coe_mul, ← coe_max,
    mul_one_div]
  rfl

/-- A value in range, turned into the word of its cell. -/
theorem cell_word {x : ℕ → ℝ} {pad v : ℝ} (h0 : low x pad ≤ v) (h1 : v ≤ high x pad) :
    FloatOps.fptosi (F := Ideal) (φ := .f32) 32 (((v : EReal) - (low x pad : EReal)) * Ideal.div 1 (step x pad : EReal) + ((1 / 2 : ℝ) : EReal))
      = BitVec.ofInt 32 (cell x pad v) := by
  have hs := step_pos x pad
  obtain ⟨a, b⟩ := ratio_bounds h0 h1
  rw [Ideal.div_coe hs.ne', one_mul, ← EReal.coe_sub, ← EReal.coe_mul, ← EReal.coe_add, mul_one_div]
  exact fptosi_floor (by linarith) (cell_bounds h0 h1).2

/-- A lane of the table: the two codes of its line in one word. -/
theorem codes_lane (hw : ∀ k : Fin 512, w (ix2 0 k) = (u k : EReal)) (k : Fin 512) (hk : k.val < 400) :
    codes w (ix2 0 k) = packed (cell (icept u) 0 (icept u k)) (cell u 1 (u k)) := by
  pointwise [codes, k0_pay17, k0_pay16]
  rw [pay10_lane hw, pay11_lane hw, pay12_eq hw, pay13_eq hw, pay14_eq hw, pay15_eq hw, c_half]
  unfold laneA laneB
  rw [if_pos hk, if_pos hk, cell_word (low_le _ _ hk) (le_high _ _ hk), cell_word (low_le _ _ hk) (le_high _ _ hk)]
  rfl

end Cert.KernelIdeal.Hand
-- ==== Proof.InterpKernel.lean ====
/-
  What the kernel computes for one sample: the line picked from the packed table, taken at the sample.
-/
module

public import proofs.«01_k».proof.Proof.TableKernel

@[expose] public section

set_option maxRecDepth 16384

noncomputable section

namespace Cert.KernelIdeal.Hand

open Cert.KernelIdeal.Gen Cert.Consts Cert.Spec
open Idealize.ShloMosaic Idealize.ShloMosaic.Tactic

variable {w : FVec Ideal S1x512 .f32} {u : ℕ → ℝ}

/-- The kernel's word for a sample is the number of its line. -/
theorem pay23_eq (z : Vec Ideal S8x128 .f32) (a : Fin 8) (b : Fin 128) (r : ℝ) (hz : z (ix2 a b) = (r : EReal)) :
    k0_pay23 z (ix2 a b) = BitVec.ofNat 32 (pick r) := by
  pointwise [k0_pay23, k0_pay22]
  rw [hz, c_three, c_398, c_neg_three, c_66_5]
  exact pick_word r

/-- The lane a line's number picks in a row, as a word. -/
abbrev laneWord (k : BitVec 32) : BitVec 32 :=
  Scalar.select (IntOp.cmpi CmpIPredicate.slt (IntOp.andi k 127#32) 0#32) (IntOp.addi (IntOp.andi k 127#32) 128#32) (IntOp.andi k 127#32)

/-- The row and lane of a line, from its number. -/
theorem line_words : ∀ k : Fin 400,
    (laneWord (BitVec.ofNat 32 k)).toNat % 128 = k.val % 128 ∧
    (k.val / 128 < 2 ↔ IntOp.cmpi CmpIPredicate.slt (IntOp.shrsi ArithUnit.vector (BitVec.ofNat 32 k) 7#32) 2#32 = 1) ∧
    (k.val / 128 = 0 ↔ IntOp.cmpi CmpIPredicate.eq (IntOp.shrsi ArithUnit.vector (BitVec.ofNat 32 k) 7#32) 0#32 = 1) ∧
    (k.val / 128 = 2 ↔ IntOp.cmpi CmpIPredicate.eq (IntOp.shrsi ArithUnit.vector (BitVec.ofNat 32 k) 7#32) 2#32 = 1) := by
  decide +kernel

/-- The word read from the table for line `k`. -/
theorem line_read (tab : Vec Ideal S4x8x128 .i32) (a : Fin 8) (k : ℕ) (hk : k < 400) (K : BitVec 32)
    (hK : K = BitVec.ofNat 32 k) (l : Fin 128) (hl : l.val = (laneWord K).toNat % 128) :
    Scalar.select (IntOp.cmpi CmpIPredicate.slt (IntOp.shrsi ArithUnit.vector K 7#32) 2#32)
        (Scalar.select (IntOp.cmpi CmpIPredicate.eq (IntOp.shrsi ArithUnit.vector K 7#32) 0#32)
          (row tab 0 (ix3 0 a l)) (row tab 1 (ix3 0 a l)))
        (Scalar.select (IntOp.cmpi CmpIPredicate.eq (IntOp.shrsi ArithUnit.vector K 7#32) 2#32)
          (row tab 2 (ix3 0 a l)) (row tab 3 (ix3 0 a l)))
      = tab (ix3 ⟨k / 128, by omega⟩ a ⟨k % 128, Nat.mod_lt _ (by decide)⟩) := by
  subst hK
  obtain ⟨h1, h2, h3, h4⟩ := line_words ⟨k, hk⟩
  have e : l = ⟨k % 128, Nat.mod_lt _ (by decide)⟩ := Fin.ext (hl.trans h1)
  subst e
  unfold Scalar.select
  dsimp only at h2 h3 h4
  simp only [← h2, ← h3, ← h4]
  have r (q : Fin 4) (hq : k / 128 = q.val) : row tab q (ix3 0 a ⟨k % 128, Nat.mod_lt _ (by decide)⟩)
      = tab (ix3 ⟨k / 128, by omega⟩ a ⟨k % 128, Nat.mod_lt _ (by decide)⟩) := by
    unfold row
    congr 1
    have : (⟨k / 128, by omega⟩ : Fin 4) = q := Fin.ext hq
    rw [this]
    rfl
  split_ifs with g1 g2 g3
  · exact r 0 g2
  · exact r 1 (by show k / 128 = 1; omega)
  · exact r 2 g3
  · exact r 3 (by show k / 128 = 3; omega)

/-- The stored table at a line's place: the two codes of the line in one word. -/
theorem tabV_line (hw : ∀ k : Fin 512, w (ix2 0 k) = (u k : EReal)) (a : Fin 8) (k : ℕ) (hk : k < 400) :
    tabV w (ix3 ⟨k / 128, by omega⟩ a ⟨k % 128, Nat.mod_lt _ (by decide)⟩) = packed (cell (icept u) 0 (icept u k)) (cell u 1 (u k)) := by
  rw [← codes_lane hw ⟨k, by omega⟩ hk]
  unfold tabV
  congr 2
  exact Fin.ext (by show 128 * (k / 128) + k % 128 = k; omega)

/-- The first constant: the least intercept with the bias taken in. -/
theorem cstV_0 (hw : ∀ k : Fin 512, w (ix2 0 k) = (u k : EReal)) :
    cstV w (ix1 0) = ((low (icept u) 0 + 32768 * step (icept u) 0 : ℝ) : EReal) := by
  show k0_pay2 _ _ = _
  pointwise [k0_pay2]
  rw [pay12_eq hw, pay13_eq hw, c_32768, ← EReal.coe_mul, ← EReal.coe_add]

/-- Reading the four constants. -/
theorem four_at (a b c d : Ideal .f32) : ((![a, b, c, d] : Fin 4 → Ideal .f32) 1 = b) ∧ ((![a, b, c, d] : Fin 4 → Ideal .f32) 2 = c)
    ∧ ((![a, b, c, d] : Fin 4 → Ideal .f32) 3 = d) := ⟨rfl, rfl, rfl⟩

/-- The second constant: the step of the intercepts' grid. -/
theorem cstV_1 (hw : ∀ k : Fin 512, w (ix2 0 k) = (u k : EReal)) : cstV w (ix1 1) = (step (icept u) 0 : EReal) :=
  Eq.trans (four_at _ _ _ _).1 (pay13_eq hw)

/-- The third constant: the least slope. -/
theorem cstV_2 (hw : ∀ k : Fin 512, w (ix2 0 k) = (u k : EReal)) : cstV w (ix1 2) = (low u 1 : EReal) :=
  Eq.trans (four_at _ _ _ _).2.1 (pay14_eq hw)

/-- The fourth constant: the step of the slopes' grid. -/
theorem cstV_3 (hw : ∀ k : Fin 512, w (ix2 0 k) = (u k : EReal)) : cstV w (ix1 3) = (step u 1 : EReal) :=
  Eq.trans (four_at _ _ _ _).2.2 (pay15_eq hw)

/-- One sample, from the word of its line. -/
theorem interp_open (tab : Vec Ideal S4x8x128 .i32) (c0 c1 c2 c3 : Ideal .f32) (z : Vec Ideal S8x128 .f32) (a : Fin 8) (b : Fin 128)
    (k : ℕ) (hk : k < 400) (hp : k0_pay23 z (ix2 a b) = BitVec.ofNat 32 k) :
    interp (row tab 0) (row tab 1) (row tab 2) (row tab 3) c0 c1 c2 c3 z (ix2 a b)
      = (FloatOps.sitofp (F := Ideal) FTy.f32 (IntOp.andi (tab (ix3 ⟨k / 128, by omega⟩ a ⟨k % 128, Nat.mod_lt _ (by decide)⟩)) 65535#32) * c3 + c2) * z (ix2 a b)
        + (FloatOps.sitofp (F := Ideal) FTy.f32 (IntOp.shrsi ArithUnit.vector (tab (ix3 ⟨k / 128, by omega⟩ a ⟨k % 128, Nat.mod_lt _ (by decide)⟩)) 16#32) * c1 + c0) := by
  unfold interp
  pointwise [k0_pay32, k0_pay24, k0_pay25, k0_pay26, k0_pay27, k0_pay28, k0_pay29, k0_pay30, k0_pay31, k0_pay45, k0_pay46, k0_pay47, k0_pay48, k0_pay22]
  rw [line_read tab a k hk _ hp _ rfl]

/-- A line's value at a sample, from its word. -/
theorem line_value {w : ℕ → ℝ} {k : ℕ} (hk : k < 400) (r : ℝ) :
    (FloatOps.sitofp (F := Ideal) FTy.f32 (IntOp.andi (packed (cell (icept w) 0 (icept w k)) (cell w 1 (w k))) 65535#32) * (step w 1 : EReal)
        + (low w 1 : EReal)) * (r : EReal)
      + (FloatOps.sitofp (F := Ideal) FTy.f32 (IntOp.shrsi ArithUnit.vector (packed (cell (icept w) 0 (icept w k)) (cell w 1 (w k))) 16#32) * (step (icept w) 0 : EReal)
        + ((low (icept w) 0 + 32768 * step (icept w) 0 : ℝ) : EReal))
      = ((slope16 w k * r + icept16 w k : ℝ) : EReal) := by
  obtain ⟨a0, a1⟩ := cell_bounds (low_le (icept w) 0 hk) (le_high (icept w) 0 hk)
  obtain ⟨b0, b1⟩ := cell_bounds (low_le w 1 hk) (le_high w 1 hk)
  have e (x : BitVec 32) : FloatOps.sitofp (F := Ideal) FTy.f32 x = ((x.toInt : ℝ) : EReal) := rfl
  rw [e, e, packed_low a0 a1 b0 b1, packed_high a0 a1 b0 b1]
  simp only [← EReal.coe_mul, ← EReal.coe_add]
  refine congrArg _ ?_
  unfold slope16 icept16 snap
  push_cast
  ring

/-- One sample, from the table. -/
theorem interp_eq (hw : ∀ k : Fin 512, w (ix2 0 k) = (u k : EReal)) (z : Vec Ideal S8x128 .f32) (a : Fin 8) (b : Fin 128) (r : ℝ)
    (hz : z (ix2 a b) = (r : EReal)) :
    interp (row (tabV w) 0) (row (tabV w) 1) (row (tabV w) 2) (row (tabV w) 3) (cstV w (ix1 0)) (cstV w (ix1 1)) (cstV w (ix1 2)) (cstV w (ix1 3)) z (ix2 a b)
      = (sample u r : EReal) := by
  have hk := pick_lt r
  rw [interp_open (tabV w) _ _ _ _ z a b (pick r) hk (pay23_eq z a b r hz), tabV_line hw a _ hk, cstV_0 hw, cstV_1 hw, cstV_2 hw, cstV_3 hw, hz]
  exact line_value hk r

end Cert.KernelIdeal.Hand
-- ==== Proof.SumsKernel.lean ====
/-
  The kernel's running sums: the values and the squares of all samples.
-/
module

public import proofs.«01_k».proof.Proof.InterpKernel

@[expose] public section

set_option maxRecDepth 16384

noncomputable section

namespace Cert.KernelIdeal.Hand

open Cert.KernelIdeal.Gen Cert.Consts Cert.Spec
open Idealize.ShloMosaic Idealize.ShloMosaic.Tactic

/-- The loop over a block has 512 trips. -/
theorem trips_eq : k0_t1_loop.trips = 512 := by decide

/-- The four accumulators start at zero. -/
theorem inits (a : Fin 8) (b : Fin 128) : k0_pay49 (F := Ideal) (ix2 a b) = 0 ∧ k0_pay50 (F := Ideal) (ix2 a b) = 0
    ∧ k0_pay51 (F := Ideal) (ix2 a b) = 0 ∧ k0_pay52 (F := Ideal) (ix2 a b) = 0 := by
  refine ⟨?_, ?_, ?_, ?_⟩
  · pointwise [k0_pay49]
  · pointwise [k0_pay50]
  · pointwise [k0_pay51]
  · pointwise [k0_pay52]
/-- A block's two accumulators are added to what the scratch holds. -/
theorem adds (s t : FVec Ideal S8x128 .f32) (x : Vec Ideal S1x8x128 .f32) (a : Fin 8) (b : Fin 128) :
    k0_pay57 s t x (ix3 0 a b) = x (ix3 0 a b) + (s (ix2 a b) + t (ix2 a b)) ∧ k0_pay4 s t x (ix3 0 a b) = x (ix3 0 a b) + (s (ix2 a b) + t (ix2 a b)) := by
  constructor
  · pointwise [k0_pay57]
  · pointwise [k0_pay4]

/-- What chunk `n` of a block gives at sublane `a`, lane `b`. -/
def val (tab : Vec Ideal S4x8x128 .i32) (cst : Vec Ideal S4 .f32) (x : Vec Ideal S8192x128 .f32) (n : ℕ) (a : Fin 8) (b : Fin 128) : EReal :=
  interp (row tab 0) (row tab 1) (row tab 2) (row tab 3) (cst (ix1 0)) (cst (ix1 1)) (cst (ix1 2)) (cst (ix1 3)) (zchunk x n) (ix2 a b)

variable (tab : Vec Ideal S4x8x128 .i32) (cst : Vec Ideal S4 .f32) (x : Vec Ideal S8192x128 .f32)

/-- The running sums after `k` pairs of chunks. -/
theorem sums_at (a : Fin 8) (b : Fin 128) (k : ℕ) :
    let s := sums (row tab 0) (row tab 1) (row tab 2) (row tab 3) (cst (ix1 0)) (cst (ix1 1)) (cst (ix1 2)) (cst (ix1 3)) x
      (k0_pay49, k0_pay50, k0_pay51, k0_pay52) k
    s.1 (ix2 a b) = ∑ j ∈ Finset.range k, val tab cst x (2 * j) a b
      ∧ s.2.1 (ix2 a b) = ∑ j ∈ Finset.range k, val tab cst x (2 * j + 1) a b
      ∧ s.2.2.1 (ix2 a b) = ∑ j ∈ Finset.range k, val tab cst x (2 * j) a b * val tab cst x (2 * j) a b
      ∧ s.2.2.2 (ix2 a b) = ∑ j ∈ Finset.range k, val tab cst x (2 * j + 1) a b * val tab cst x (2 * j + 1) a b := by
  induction k with
  | zero => simp only [Finset.range_zero, Finset.sum_empty]; exact inits a b
  | succ k ih =>
    obtain ⟨h1, h2, h3, h4⟩ := ih
    simp only [Finset.sum_range_succ, ← h1, ← h2, ← h3, ← h4]
    exact ⟨rfl, rfl, rfl, rfl⟩

/-- Even and odd terms make all terms. -/
theorem even_odd (g : ℕ → EReal) (k : ℕ) :
    ∑ j ∈ Finset.range k, g (2 * j) + ∑ j ∈ Finset.range k, g (2 * j + 1) = ∑ n ∈ Finset.range (k * 2), g n := by
  rw [sum_rows g k 2, ← Finset.sum_add_distrib]
  refine Finset.sum_congr rfl fun j _ => ?_
  rw [Finset.sum_range_succ, Finset.sum_range_one, mul_comm 2 j]
  rfl

/-- One more block in the running sums. -/
theorem accStep_at (acc : Vec Ideal S2x8x128 .f32) (a : Fin 8) (b : Fin 128) :
    accStep tab cst x acc (ix3 0 a b) = acc (ix3 0 a b) + ∑ n ∈ Finset.range 1024, val tab cst x n a b
    ∧ accStep tab cst x acc (ix3 1 a b) = acc (ix3 1 a b) + ∑ n ∈ Finset.range 1024, val tab cst x n a b * val tab cst x n a b := by
  obtain ⟨h1, h2, h3, h4⟩ := sums_at tab cst x a b 512
  constructor
  · show k0_pay57 (sumsV tab cst x).1 (sumsV tab cst x).2.1 (slab acc 0) (ix3 0 a b) = _
    rw [(adds _ _ _ a b).1]
    unfold sumsV
    rw [trips_eq, h1, h2, even_odd (fun n => val tab cst x n a b)]
    rfl
  · show k0_pay4 (sumsV tab cst x).2.2.1 (sumsV tab cst x).2.2.2 (slab acc 1) (ix3 0 a b) = _
    rw [(adds _ _ _ a b).2]
    unfold sumsV
    rw [trips_eq, h3, h4, even_odd (fun n => val tab cst x n a b * val tab cst x n a b)]
    rfl

/-- All samples, taken in the order the kernel adds them. -/
theorem all_samples (f : ℕ → EReal) :
    ∑ a : Fin 8, ∑ b : Fin 128, ∑ i ∈ Finset.range 8, ∑ n ∈ Finset.range 1024, f ((i * 8192 + (8 * n + a.val)) * 128 + b.val)
      = ∑ m ∈ Finset.range 8388608, f m := by
  rw [show (8388608 : ℕ) = 8 * 1024 * 8 * 128 from rfl, sum_rows f _ 128,
    sum_rows (fun R => ∑ b ∈ Finset.range 128, f (R * 128 + b)) (8 * 1024) 8,
    sum_rows (fun q => ∑ a ∈ Finset.range 8, ∑ b ∈ Finset.range 128, f ((q * 8 + a) * 128 + b)) 8 1024]
  rw [Fin.sum_univ_eq_sum_range (fun a => ∑ b : Fin 128, ∑ i ∈ Finset.range 8, ∑ n ∈ Finset.range 1024, f ((i * 8192 + (8 * n + a)) * 128 + b.val)) 8]
  rw [Finset.sum_congr rfl fun a _ => Fin.sum_univ_eq_sum_range (fun b => ∑ i ∈ Finset.range 8, ∑ n ∈ Finset.range 1024, f ((i * 8192 + (8 * n + a)) * 128 + b)) 128]
  rw [Finset.sum_congr rfl fun a _ => Finset.sum_comm, Finset.sum_comm]
  refine Finset.sum_congr rfl fun i _ => ?_
  rw [Finset.sum_congr rfl fun a _ => Finset.sum_comm, Finset.sum_comm]
  refine Finset.sum_congr rfl fun n _ => Finset.sum_congr rfl fun a _ => Finset.sum_congr rfl fun b _ => congrArg f ?_
  ring

/-- The running sums start at zero. -/
theorem pay3_at (a : Fin 8) (b : Fin 128) (r : Fin 2) : k0_pay3 (F := Ideal) (ix3 r a b) = 0 := by
  pointwise [k0_pay3]

end Cert.KernelIdeal.Hand
-- ==== Proof.Scale.lean ====
/-
  The normalisation both programs end with: mean, spread, gain, and the result of one sample.
-/
module

public import proofs.«01_k».proof.Proof.Folds
public import Mathlib.Analysis.SpecialFunctions.Log.Basic

@[expose] public section

noncomputable section

namespace Cert.Spec

open Finset Idealize.ShloMosaic Cert.Consts

/-- The mean of the samples. -/
def mean (f : ℕ → ℝ) : ℝ := (∑ n ∈ range 8388608, f n) / 8388608

/-- The sum of squared deviations from the mean. -/
def dev (f : ℕ → ℝ) : ℝ := ∑ n ∈ range 8388608, (f n - mean f) * (f n - mean f)

/-- The spread of the samples, not less than the floor. -/
def spread (f : ℕ → ℝ) : ℝ := max (Real.sqrt (dev f / 8388607)) sigFloor

/-- The softplus, in the extended reals. -/
def softplus (a : EReal) : EReal := max a 0 + Ideal.log1p (Ideal.exp (-(max a (-a))))

/-- The gain, from the raw parameter. -/
def gain (a : EReal) : ℝ := (softplus a).toReal + scaleAdd

/-- The result for sample `n`. -/
def result (f : ℕ → ℝ) (a : EReal) (b : EReal) (n : ℕ) : EReal := ((gain a * ((f n - mean f) / spread f) : ℝ) : EReal) + b

/-- The floored deviation is positive. -/
theorem spread_pos (f : ℕ → ℝ) : 0 < spread f := lt_of_lt_of_le sigFloor_pos (le_max_right _ _)

/-- The sum of squared deviations is not negative. -/
theorem dev_nonneg (f : ℕ → ℝ) : 0 ≤ dev f := sum_nonneg fun _ _ => mul_self_nonneg _

/-- The squared deviations from the sums of values and squares. -/
theorem dev_eq (f : ℕ → ℝ) : dev f = ∑ n ∈ range 8388608, f n * f n
    - (∑ n ∈ range 8388608, f n) * (∑ n ∈ range 8388608, f n) / 8388608 := by
  have h := sum_dev f 8388608 (by norm_num)
  push_cast at h
  exact h

/-- The second term of the softplus of a real. -/
theorem log_eq (a : ℝ) : Ideal.log1p (Ideal.exp (-(max (a : EReal) (-(a : EReal))))) = ((Real.log (1 + Real.exp (-|a|)) : ℝ) : EReal) := by
  have h : 0 < 1 + Real.exp (-|a|) := by positivity
  rw [← EReal.coe_neg, ← coe_max, ← EReal.coe_neg, Ideal.exp_coe, Ideal.log1p, ← EReal.coe_one, ← EReal.coe_add, Ideal.log_coe]
  exact if_neg (not_le.2 h)

/-- The softplus is real below infinity. -/
theorem softplus_eq {a : EReal} (h : a < ⊤) : softplus a = ((softplus a).toReal : EReal) := by
  have e : ∃ r : ℝ, softplus a = (r : EReal) := by
    unfold softplus
    induction a using EReal.rec with
    | bot =>
      refine ⟨0, ?_⟩
      rw [EReal.neg_bot, max_eq_right bot_le, max_eq_right bot_le, EReal.neg_top, Ideal.exp_bot, Ideal.log1p, add_zero, zero_add,
        ← EReal.coe_one, Ideal.log_coe, if_neg (by norm_num), Real.log_one]
    | coe r =>
      refine ⟨max r 0 + Real.log (1 + Real.exp (-|r|)), ?_⟩
      rw [log_eq, ← EReal.coe_zero, ← coe_max, ← EReal.coe_add]
    | top => exact absurd h (lt_irrefl _)
  obtain ⟨r, e⟩ := e
  rw [e, EReal.toReal_coe]

/-- The root of a number not negative. -/
theorem sqrt_eq {r : ℝ} (h : 0 ≤ r) : Ideal.sqrt (r : EReal) = ((Real.sqrt r : ℝ) : EReal) := by
  rw [Ideal.sqrt_coe, if_neg (not_lt.2 h)]

/-- The result as one multiplication and one addition. -/
theorem result_eq (f : ℕ → ℝ) (a : EReal) (b : EReal) (n : ℕ) :
    (f n : EReal) * ((gain a / spread f : ℝ) : EReal) + (b - ((mean f * (gain a / spread f) : ℝ) : EReal)) = result f a b n := by
  unfold result
  rw [show gain a * ((f n - mean f) / spread f) = f n * (gain a / spread f) + -(mean f * (gain a / spread f)) by ring,
    EReal.coe_add, EReal.coe_neg, ← EReal.coe_mul, sub_eq_add_neg, add_assoc, add_comm b]

end Cert.Spec
-- ==== Proof.OutKernel.lean ====
/-
  What the kernel writes, from the slopes and the samples as reals.
-/
module

public import proofs.«01_k».proof.Proof.SumsKernel
public import proofs.«01_k».proof.Proof.Scale
public import proofs.«01_k».proof.Proof.KernelIdealState

@[expose] public section

set_option maxRecDepth 16384

noncomputable section

namespace Cert.KernelIdeal.Hand

open Cert.KernelIdeal.Gen Cert.Consts Cert.Spec
open Idealize.ShloMosaic Idealize.ShloMosaic.Tactic

/-- The scale from the finished sums. -/
theorem pay59_eq (s q : Vec Ideal S1x8x128 .f32) (f : ℕ → ℝ) {a : EReal} (ha : a < ⊤)
    (hs : ∑ i : Fin 8, ∑ j : Fin 128, s (ix3 0 i j) = ((∑ n ∈ Finset.range 8388608, f n : ℝ) : EReal))
    (hq : ∑ i : Fin 8, ∑ j : Fin 128, q (ix3 0 i j) = ((∑ n ∈ Finset.range 8388608, f n * f n : ℝ) : EReal)) :
    k0_pay59 s q a = ((gain a / spread f : ℝ) : EReal) := by
  pointwise [k0_pay59, k0_pay58]
  have e : (0 : EReal) - Scalar.absf (F := Ideal) (φ := .f32) a = -(max a (-a)) := by
    rw [zero_sub]; rfl
  rw [hs, hq, e, if_neg (by simp)]
  have e2 : max a 0 + Scalar.log1p (F := Ideal) (φ := .f32) (Scalar.exp (F := Ideal) (φ := .f32) (-(max a (-a)))) = _ := softplus_eq ha
  rw [e2, c_count, c_scaleAdd, c_sigFloor, Ideal.div_coe (by norm_num), ← EReal.coe_mul, ← EReal.coe_mul, ← EReal.coe_sub,
    ← EReal.coe_one, ← EReal.coe_sub, Ideal.div_coe (by norm_num), ← EReal.coe_mul, ← EReal.coe_zero, ← coe_max, ← EReal.coe_add]
  have e3 : (∑ n ∈ Finset.range 8388608, f n * f n - (∑ n ∈ Finset.range 8388608, f n) * (∑ n ∈ Finset.range 8388608, f n) * (1 / 8388608))
      * (1 / (8388608 - 1)) = dev f / 8388607 := by
    rw [dev_eq]; ring
  have h0 : 0 ≤ dev f / 8388607 := div_nonneg (dev_nonneg f) (by norm_num)
  rw [e3, max_eq_left h0]
  have e4 : Scalar.sqrt (F := Ideal) (φ := .f32) ((dev f / 8388607 : ℝ) : EReal) = _ := sqrt_eq h0
  rw [e4, ← coe_max]
  change Ideal.div ((gain a : ℝ) : EReal) ((spread f : ℝ) : EReal) = _
  rw [Ideal.div_coe (spread_pos f).ne', ← EReal.coe_mul, mul_one_div]

/-- The shift from the finished sums. -/
theorem pay60_eq (s q : Vec Ideal S1x8x128 .f32) (f : ℕ → ℝ) {a : EReal} (ha : a < ⊤) (b : EReal)
    (hs : ∑ i : Fin 8, ∑ j : Fin 128, s (ix3 0 i j) = ((∑ n ∈ Finset.range 8388608, f n : ℝ) : EReal))
    (hq : ∑ i : Fin 8, ∑ j : Fin 128, q (ix3 0 i j) = ((∑ n ∈ Finset.range 8388608, f n * f n : ℝ) : EReal)) :
    k0_pay60 s q a b = b - ((mean f * (gain a / spread f) : ℝ) : EReal) := by
  pointwise [k0_pay60]
  rw [pay59_eq s q f ha hs hq]
  have e : k0_pay58 s = ((∑ n ∈ Finset.range 8388608, f n : ℝ) : EReal) := by
    pointwise [k0_pay58]
    exact hs
  rw [e, c_count, Ideal.div_coe (by norm_num), ← EReal.coe_mul, ← EReal.coe_mul, mul_one_div]
  rfl

/-- The result at a place is the stored sample times the factor plus the offset. -/
theorem pay5_at (x : Vec Ideal S1x8192x128 .f32) (s c : Ideal .f32) (r : Fin 8192) (l : Fin 128) :
    k0_pay5 x s c (ix2 r l) = x (ix3 0 r l) * s + c := by
  pointwise [k0_pay5]

variable (m : (ℓ : Loc nD τ sig) → Buf (Elt Ideal) ℓ) (c : Dev nD) {u zr : ℕ → ℝ}

/-- What chunk `n` of block `i` gives. -/
theorem val_eq (hw : ∀ k : Fin 512, WV m c (ix2 0 k) = (u k : EReal))
    (hz : ∀ i < 8, ∀ (r : Fin 8192) (l : Fin 128), ib7 m c (pt i) (ix2 r l) = (zr ((i * 8192 + r) * 128 + l) : EReal))
    (i n : ℕ) (hi : i < 8) (hn : n < 1024) (a : Fin 8) (b : Fin 128) :
    val (TAB m c) (CST m c) (ib7 m c (pt i)) n a b = (sample u (zr ((i * 8192 + (8 * n + a.val)) * 128 + b.val)) : EReal) := by
  have ha := a.isLt
  refine interp_eq hw _ a b _ ?_
  show ib7 m c (pt i) (ix2 ⟨(8 * n + a.val) % 8192, _⟩ b) = _
  rw [hz i hi]
  have : (8 * n + a.val) % 8192 = 8 * n + a.val := Nat.mod_eq_of_lt (by omega)
  dsimp only
  rw [this]

/-- The running sums after `k` blocks. -/
theorem acc_at (hw : ∀ k : Fin 512, WV m c (ix2 0 k) = (u k : EReal))
    (hz : ∀ i < 8, ∀ (r : Fin 8192) (l : Fin 128), ib7 m c (pt i) (ix2 r l) = (zr ((i * 8192 + r) * 128 + l) : EReal))
    (a : Fin 8) (b : Fin 128) (k : ℕ) (hk : k ≤ 8) :
    ACC m c k (ix3 0 a b) = ∑ i ∈ Finset.range k, ∑ n ∈ Finset.range 1024, (sample u (zr ((i * 8192 + (8 * n + a.val)) * 128 + b.val)) : EReal)
    ∧ ACC m c k (ix3 1 a b) = ∑ i ∈ Finset.range k, ∑ n ∈ Finset.range 1024,
      ((sample u (zr ((i * 8192 + (8 * n + a.val)) * 128 + b.val)) * sample u (zr ((i * 8192 + (8 * n + a.val)) * 128 + b.val)) : ℝ) : EReal) := by
  induction k with
  | zero =>
    simp only [Finset.range_zero, Finset.sum_empty]
    exact ⟨pay3_at a b 0, pay3_at a b 1⟩
  | succ k ih =>
    obtain ⟨h1, h2⟩ := ih (by omega)
    obtain ⟨g1, g2⟩ := accStep_at (TAB m c) (CST m c) (ib7 m c (pt k)) (ACC m c k) a b
    constructor
    · refine g1.trans (Eq.trans ?_ (Finset.sum_range_succ _ k).symm)
      rw [h1]
      refine congrArg (_ + ·) ?_
      exact Finset.sum_congr rfl fun n hn => val_eq m c hw hz k n (by omega) (Finset.mem_range.1 hn) a b
    · refine g2.trans (Eq.trans ?_ (Finset.sum_range_succ _ k).symm)
      rw [h2]
      refine congrArg (_ + ·) ?_
      refine Finset.sum_congr rfl fun n hn => ?_
      rw [val_eq m c hw hz k n (by omega) (Finset.mem_range.1 hn) a b, ← EReal.coe_mul]

/-- The finished sums are the sums over all samples. -/
theorem acc_total (hw : ∀ k : Fin 512, WV m c (ix2 0 k) = (u k : EReal))
    (hz : ∀ i < 8, ∀ (r : Fin 8192) (l : Fin 128), ib7 m c (pt i) (ix2 r l) = (zr ((i * 8192 + r) * 128 + l) : EReal)) :
    ∑ a : Fin 8, ∑ b : Fin 128, slab (ACC m c 8) 0 (ix3 0 a b) = ((∑ n ∈ Finset.range 8388608, sample u (zr n) : ℝ) : EReal)
    ∧ ∑ a : Fin 8, ∑ b : Fin 128, slab (ACC m c 8) 1 (ix3 0 a b) = ((∑ n ∈ Finset.range 8388608, sample u (zr n) * sample u (zr n) : ℝ) : EReal) := by
  rw [coe_sum, coe_sum, ← all_samples, ← all_samples]
  constructor
  · exact Finset.sum_congr rfl fun a _ => Finset.sum_congr rfl fun b _ => (acc_at m c hw hz a b 8 le_rfl).1
  · exact Finset.sum_congr rfl fun a _ => Finset.sum_congr rfl fun b _ => (acc_at m c hw hz a b 8 le_rfl).2

/-- One entry of the output block written at point `t`. -/
theorem out_at (hw : ∀ k : Fin 512, WV m c (ix2 0 k) = (u k : EReal))
    (hz : ∀ i < 8, ∀ (r : Fin 8192) (l : Fin 128), ib7 m c (pt i) (ix2 r l) = (zr ((i * 8192 + r) * 128 + l) : EReal))
    {a b : EReal} (ht : a < ⊤) (ha : ib0 m c (pt 8) (ix1 0) = a) (hb : ib0 m c (pt 8) (ix1 1) = b)
    (t : Fin cfg0.N) (r : Fin 8192) (l : Fin 128) :
    OUT m c t (ix2 r l) = result (fun n => sample u (zr n)) a b (((t.val % 8) * 8192 + r.val) * 128 + l.val) := by
  obtain ⟨hs, hq⟩ := acc_total m c hw hz
  have e0 : SC m c (ix1 0) = ((gain a / spread (fun n => sample u (zr n)) : ℝ) : EReal) := by
    show k0_pay59 (slab (ACC m c 8) 0) (slab (ACC m c 8) 1) (ib0 m c (pt 8) (ix1 0)) = _
    rw [ha]
    exact pay59_eq _ _ _ ht hs hq
  have e1 : SC m c (ix1 1) = b - ((mean (fun n => sample u (zr n)) * (gain a / spread (fun n => sample u (zr n))) : ℝ) : EReal) := by
    show k0_pay60 (slab (ACC m c 8) 0) (slab (ACC m c 8) 1) (ib0 m c (pt 8) (ix1 0)) (ib0 m c (pt 8) (ix1 1)) = _
    rw [ha, hb]
    exact pay60_eq _ _ _ ht b hs hq
  have hr := r.isLt
  have hc := coord1 t
  have e2 : FZ m c (ix3 (grid0.coords t 1) r l) = (sample u (zr (((t.val % 8) * 8192 + r.val) * 128 + l.val)) : EReal) := by
    have h := val_eq m c hw hz (t.val % 8) (r.val / 8) (Nat.mod_lt _ (by decide)) (by omega) ⟨r.val % 8, Nat.mod_lt _ (by decide)⟩ l
    have e : 8 * (r.val / 8) + r.val % 8 = r.val := Nat.div_add_mod _ _
    dsimp only at h
    rw [e] at h
    rw [← h, ← hc]
    rfl
  unfold OUT outV
  rw [pay5_at, e0, e1]
  refine Eq.trans ?_ (result_eq (fun n => sample u (zr n)) a b _)
  exact congrArg (fun v => v * _ + _) e2

end Cert.KernelIdeal.Hand
-- ==== Proof.BlocksKernel.lean ====
/-
  What the kernel's windows hold, in terms of the arguments, and the result array from the blocks written.
-/
module

public import proofs.«01_k».proof.Proof.OutKernel
public import proofs.«01_k».proof.Proof.KernelIdealLaunch
public import Idealize.ShloMosaic.Lib.Pipeline.ValueKit
public import Idealize.ShloMosaic.Lib.Pointwise

@[expose] public section

set_option maxRecDepth 16384

noncomputable section

namespace Cert.KernelIdeal.Hand

open Cert.KernelIdeal.Gen Cert.Consts Cert.Spec
open Idealize.ShloMosaic Idealize.ShloMosaic.Tactic Idealize.ShloMosaic.TcCoe

variable (m : (ℓ : Loc nD τ sig) → Buf (Elt Ideal) ℓ) (c : Dev nD)

/-! ## The arrays the host lines make -/

theorem V_v0 (R : Fin 65536) (l : Fin 128) :
    V m c main_v0 (ix2 R l) = m ((c : Thread nD τ).loc main_arg0) (ix2 ⟨R.val * 128 + l.val, by omega⟩ 0) := by
  unfold_abbrev_sides
  simp only [List.flatten_cons, List.flatten_nil, List.append_nil]
  after_results
  pointwise

theorem V_v3 : V m c main_v3 (ix1 0) = m ((c : Thread nD τ).loc main_arg7) ix0 ∧ V m c main_v3 (ix1 1) = m ((c : Thread nD τ).loc main_arg8) ix0 := by
  have h (i : Fin 2) : V m c main_v3 (ix1 i) = if h : i.val < 1 then m ((c : Thread nD τ).loc main_arg7) ix0 else m ((c : Thread nD τ).loc main_arg8) ix0 := by
    unfold_abbrev_sides
    simp only [List.flatten_cons, List.flatten_nil, List.append_nil]
    after_results
    pointwise
  exact ⟨h 0, h 1⟩

theorem V_v4 (i : Fin 64) :
    V m c main_v4 (ix2 i 0) = m ((c : Thread nD τ).loc main_arg2) (ix1 i) := by
  unfold_abbrev_sides
  simp only [List.flatten_cons, List.flatten_nil, List.append_nil]
  after_results
  pointwise

theorem V_v5 (i : Fin 64) :
    V m c main_v5 (ix2 i 0) = m ((c : Thread nD τ).loc main_arg4) (ix1 i) := by
  unfold_abbrev_sides
  simp only [List.flatten_cons, List.flatten_nil, List.append_nil]
  after_results
  pointwise

theorem V_v6 :
    V m c main_v6 (ix2 0 0) = m ((c : Thread nD τ).loc main_arg6) (ix1 0) := by
  unfold_abbrev_sides
  simp only [List.flatten_cons, List.flatten_nil, List.append_nil]
  after_results
  pointwise

/-! ## The blocks -/

theorem index0 : ∀ t : Fin grid0.N, win0_0.index t = ![0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![if t.val < 8 then t.val % 8 else win0_7.index t 0, 0] := by
  decide +kernel
theorem index8 : ∀ t : Fin grid0.N, win0_8.index t = ![if 8 ≤ t.val then t.val % 8 else win0_8.index t 0, 0] := by
  decide +kernel

theorem ib0_at (t : Fin cfg0.N) : ib0 m c t (ix1 0) = m ((c : Thread nD τ).loc main_arg7) ix0
    ∧ ib0 m c t (ix1 1) = m ((c : Thread nD τ).loc main_arg8) ix0 := by
  have e := index0 t
  unfold ib0
  constructor
  · blk_simp [iblk, e]
    rw [show (win0_0.blk t).view.emb (ix1 0) = ix1 0 by blk_ext [e]]
    exact (V_v3 m c).1
  · blk_simp [iblk, e]
    rw [show (win0_0.blk t).view.emb (ix1 1) = ix1 1 by blk_ext [e]]
    exact (V_v3 m c).2

theorem ib1_at (t : Fin cfg0.N) (i : Fin 64) : ib1 m c t (ix2 i 0) = m ((c : Thread nD τ).loc main_arg1) (ix2 i 0) := by
  have e := index1 t
  unfold ib1
  blk_simp [iblk, e]
  rw [show (win0_1.blk t).view.emb (ix2 i 0) = ix2 i 0 by blk_ext [e]]
  rw [V_main_arg1]

theorem ib2_at (t : Fin cfg0.N) (i : Fin 64) : ib2 m c t (ix2 i 0) = m ((c : Thread nD τ).loc main_arg2) (ix1 i) := by
  have e := index2 t
  unfold ib2
  blk_simp [iblk, e]
  rw [show (win0_2.blk t).view.emb (ix2 i 0) = ix2 i 0 by blk_ext [e]]
  rw [V_v4]

theorem ib3_at (t : Fin cfg0.N) (i : Fin 64) (j : Fin 64) : ib3 m c t (ix2 i j) = m ((c : Thread nD τ).loc main_arg3) (ix2 i j) := by
  have e := index3 t
  unfold ib3
  blk_simp [iblk, e]
  rw [show (win0_3.blk t).view.emb (ix2 i j) = ix2 i j by blk_ext [e]]
  rw [V_main_arg3]

theorem ib4_at (t : Fin cfg0.N) (i : Fin 64) : ib4 m c t (ix2 i 0) = m ((c : Thread nD τ).loc main_arg4) (ix1 i) := by
  have e := index4 t
  unfold ib4
  blk_simp [iblk, e]
  rw [show (win0_4.blk t).view.emb (ix2 i 0) = ix2 i 0 by blk_ext [e]]
  rw [V_v5]

theorem ib5_at (t : Fin cfg0.N) (j : Fin 64) : ib5 m c t (ix2 0 j) = m ((c : Thread nD τ).loc main_arg5) (ix2 0 j) := by
  have e := index5 t
  unfold ib5
  blk_simp [iblk, e]
  rw [show (win0_5.blk t).view.emb (ix2 0 j) = ix2 0 j by blk_ext [e]]
  rw [V_main_arg5]

theorem ib6_at (t : Fin cfg0.N) : ib6 m c t (ix2 0 0) = m ((c : Thread nD τ).loc main_arg6) (ix1 0) := by
  have e := index6 t
  unfold ib6
  blk_simp [iblk, e]
  rw [show (win0_6.blk t).view.emb (ix2 0 0) = ix2 0 0 by blk_ext [e]]
  rw [V_v6]

theorem ib7_at (i : ℕ) (hi : i < 8) (r : Fin 8192) (l : Fin 128) :
    ib7 m c (pt i) (ix2 r l) = m ((c : Thread nD τ).loc main_arg0) (ix2 ⟨(i * 8192 + r.val) * 128 + l.val, by omega⟩ 0) := by
  have e := index7 (pt i)
  rw [if_pos (show (pt i).val < 8 by show i % 16 < 8; omega), show (pt i).val % 8 = i by show i % 16 % 8 = i; omega] at e
  unfold ib7
  blk_simp [iblk, e]
  rw [show (win0_7.blk (pt i)).view.emb (ix2 r l) = ix2 ⟨i * 8192 + r.val, by omega⟩ l by blk_ext [e]]
  rw [V_v0]

/-! ## The result -/

/-- The slopes over the reals make the table, and the samples are real: the result array. -/
theorem arr8 {u zr : ℕ → ℝ} {a : EReal} (hw : ∀ k : Fin 512, WV m c (ix2 0 k) = (u k : EReal))
    (hz : ∀ n : Fin 8388608, m ((c : Thread nD τ).loc main_arg0) (ix2 n 0) = (zr n : EReal))
    (hlt : a < ⊤) (ha : m ((c : Thread nD τ).loc main_arg7) ix0 = a) :
    (dats m 0 c).arrAt 8 cfg0.N
      = (fun y => result (fun n => sample u (zr n)) a (m ((c : Thread nD τ).loc main_arg8) ix0) ((y 0).val * 128 + (y 1).val) : FVec Ideal S65536x128 .f32) := by
  refine (dats m 0 c).arrAt_eq_of_covers 8 _ (by decide +kernel) fun t hf y => ?_
  have ht : 8 ≤ t.val := by
    have h : win0_8.flush t = true := hf
    rw [flushAt] at h
    exact of_decide_eq_true h
  have e := index8 t
  rw [if_pos ht] at e
  blk_simp
  rw [after_8, e]
  have hy : OUT m c t y = OUT m c t (ix2 (y 0) (y 1)) := congrArg _ (by funext a; fin_cases a <;> rfl)
  rw [hy, out_at m c hw (fun i hi r l => (ib7_at m c i hi r l).trans (hz _)) hlt ((ib0_at m c (pt 8)).1.trans ha) (ib0_at m c (pt 8)).2 t (y 0) (y 1)]
  refine congrArg _ ?_
  show _ = (t.val % 8 * 8192 + (y 0).val) * 128 + (0 * 128 + (y 1).val)
  omega

theorem arr_inj : Function.Injective (Pipeline.arrRef spec0) := by decide

/-- The result of the program, entry by entry. -/
theorem tail_v8 {u zr : ℕ → ℝ} {a : EReal} (hw : ∀ k : Fin 512, WV m c (ix2 0 k) = (u k : EReal))
    (hz : ∀ n : Fin 8388608, m ((c : Thread nD τ).loc main_arg0) (ix2 n 0) = (zr n : EReal))
    (hlt : a < ⊤) (ha : m ((c : Thread nD τ).loc main_arg7) ix0 = a) (n : Fin 8388608) :
    Pipeline.afterTail₀ cfgs (dats m) 0 (V0 m) [hostOps1] c main_v8 (ix2 n 0)
      = result (fun n => sample u (zr n)) a (m ((c : Thread nD τ).loc main_arg8) ix0) n.val := by
  unfold Pipeline.afterTail₀
  simp only [List.flatten_cons, List.flatten_nil, List.append_nil]
  after_results
  rw [Pipeline.withArrays_arr spec0 arr_inj c _ _ 8]
  rw [arr8 m c hw hz hlt ha]
  pointwise
  rw [Nat.div_add_mod']

end Cert.KernelIdeal.Hand
-- ==== Proof.Slope.lean ====
/-
  The slope at a point of the table: three layers, clipped to [-1, 1], and the exponential. It is real whatever the
  weights are.
-/
module

public import proofs.«01_k».proof.Proof.Folds

@[expose] public section

noncomputable section

namespace Cert.Spec

open Finset Idealize.ShloMosaic

/-- What the last layer gives at `t`. -/
def layers (w1 b1 : Fin 64 → EReal) (w2 : Fin 64 → Fin 64 → EReal) (b2 w3 : Fin 64 → EReal) (b3 : EReal) (t : ℝ) : EReal :=
  ∑ i, w3 i * Ideal.tanh (∑ j, w2 i j * Ideal.tanh ((t : EReal) * w1 j + b1 j) + b2 i) + b3

/-- The exponential of a clipped number. -/
def expClip (x : EReal) : ℝ := (Ideal.exp (min ((1 : ℝ) : EReal) (max ((-1 : ℝ) : EReal) x))).toReal

/-- The exponential of a value held between -1 and 1 is a real. -/
theorem expClip_eq (x : EReal) : Ideal.exp (min ((1 : ℝ) : EReal) (max ((-1 : ℝ) : EReal) x)) = (expClip x : EReal) := by
  have h : ∃ r : ℝ, min ((1 : ℝ) : EReal) (max ((-1 : ℝ) : EReal) x) = (r : EReal) := by
    induction x using EReal.rec with
    | bot => exact ⟨-1, by rw [max_eq_left bot_le, ← coe_min]; norm_num⟩
    | coe r => exact ⟨_, by rw [← coe_max, ← coe_min]⟩
    | top => exact ⟨1, by rw [max_eq_right le_top, min_eq_left le_top]⟩
  obtain ⟨r, h⟩ := h
  unfold expClip
  rw [h, Ideal.exp_coe, EReal.toReal_coe]

/-- The slopes of the table. -/
def slopes (w1 b1 : Fin 64 → EReal) (w2 : Fin 64 → Fin 64 → EReal) (b2 w3 : Fin 64 → EReal) (b3 : EReal) (k : ℕ) : ℝ :=
  expClip (layers w1 b1 w2 b2 w3 b3 (point k))

end Cert.Spec
-- ==== Proof.KernelValue.lean ====
/-
  The kernel's run with its result named, entry by entry.
-/
module

public import proofs.«01_k».proof.Proof.BlocksKernel
public import proofs.«01_k».proof.Proof.Slope
public import Idealize.ShloMosaic.Lib.Claim

@[expose] public section

set_option maxRecDepth 16384

noncomputable section

namespace Cert.KernelIdeal.Hand

open Cert.KernelIdeal.Gen Cert.Consts Cert.Spec
open Idealize.ShloMosaic Idealize.ShloMosaic.Tactic Idealize.ShloMosaic.TcCoe

/-- A lane of the network's result is the slope at its point. -/
theorem pay6_at (w1 b1 : Vec Ideal S64x1 .f32) (w2 : Vec Ideal S64x64 .f32) (b2 : Vec Ideal S64x1 .f32) (w3 : Vec Ideal S1x64 .f32)
    (b3 : Vec Ideal S1x1 .f32) (k : Fin 512) :
    k0_pay6 w1 b1 w2 b2 w3 b3 (ix2 0 k)
      = (slopes (fun j => w1 (ix2 j 0)) (fun j => b1 (ix2 j 0)) (fun i j => w2 (ix2 i j)) (fun i => b2 (ix2 i 0)) (fun i => w3 (ix2 0 i)) (b3 (ix2 0 0)) k : EReal) := by
  pointwise [k0_pay6]
  rw [sitofp_nat _ k.isLt, c_neg_three, n_dt, c_neg_one, ← EReal.coe_mul, ← EReal.coe_add]
  exact expClip_eq _

variable (m : (ℓ : Loc nD τ sig) → Buf (Elt Ideal) ℓ) (ρ : Dev nD → PrngReg)

/-- The slopes a memory's weights make. -/
def slopesOf (c : Dev nD) : ℕ → ℝ :=
  slopes (fun j => m ((c : Thread nD τ).loc main_arg1) (ix2 j 0)) (fun j => m ((c : Thread nD τ).loc main_arg2) (ix1 j))
    (fun i j => m ((c : Thread nD τ).loc main_arg3) (ix2 i j)) (fun i => m ((c : Thread nD τ).loc main_arg4) (ix1 i))
    (fun i => m ((c : Thread nD τ).loc main_arg5) (ix2 0 i)) (m ((c : Thread nD τ).loc main_arg6) (ix1 0))

/-- The slopes the kernel finds are the slopes of its arguments. -/
theorem WV_at (c : Dev nD) (k : Fin 512) : WV m c (ix2 0 k) = (slopesOf m c k : EReal) := by
  unfold WV slopesOf
  rw [pay6_at]
  simp only [ib1_at, ib2_at, ib3_at, ib4_at, ib5_at, ib6_at]

/-- Sample `n` of a memory, as a real. -/
def sampleOf (c : Dev nD) (n : ℕ) : ℝ :=
  EReal.toReal (m ((c : Thread nD τ).loc main_arg0) (ix2 ⟨n % 8388608, Nat.mod_lt _ (by decide)⟩ 0))

/-- The raw gain of a memory. -/
def rawOf (c : Dev nD) : EReal := m ((c : Thread nD τ).loc main_arg7) ix0

/-- The result of a memory. -/
def res (c : Dev nD) : FVec Ideal S8388608x1 .f32 :=
  fun y => result (fun n => sample (slopesOf m c) (sampleOf m c n)) (rawOf m c) (m ((c : Thread nD τ).loc main_arg8) ix0) (y 0).val

/-- The run from a memory whose samples are real and whose raw gain is below infinity. -/
theorem run (hz : ∀ (c : Dev nD) (n : Fin 8388608), ∃ r : ℝ, m ((c : Thread nD τ).loc main_arg0) (ix2 n 0) = (r : EReal))
    (ha : ∀ c : Dev nD, rawOf m c < ⊤) :
    θ_run defs (onTc (τ := τ) (main (F := Ideal))) ⟨m, fun _ => 0, ρ⟩ (fun r => ∀ c : Dev nD,
      r.2.mem ((c.tc : Thread nD τ).loc main_v8) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun _ h c => ⟨?_, h.1.1 c⟩) (θ_run_and (frame m ρ) (run_main m ρ))
  refine ((h.2.1 c).2 main_v8 (Pipeline.mem_restRefs_of main_v8 (by decide) (by decide))).trans ?_
  funext y
  have hy : y = ix2 (y 0) 0 := by
    funext a
    fin_cases a
    · rfl
    · exact Subsingleton.elim (α := Fin 1) _ _
  rw [hy]
  refine tail_v8 m c (WV_at m c) (fun n => ?_) (ha c) rfl (y 0)
  obtain ⟨r, hr⟩ := hz c n
  have e : (⟨n.val % 8388608, Nat.mod_lt _ (by decide)⟩ : Fin 8388608) = n := Fin.ext (Nat.mod_eq_of_lt n.isLt)
  unfold sampleOf
  rw [e, hr, EReal.toReal_coe]

end Cert.KernelIdeal.Hand
-- ==== Proof.Cumsum.lean ====
/-
  The running sum of 399 reals, as a window sum over a padded row.
-/
module

public import proofs.«01_k».proof.ReferenceIdeal
public import proofs.«01_k».proof.Proof.Folds
public import Idealize.ShloMosaic.Lib.Routing.Ops

@[expose] public section

set_option maxRecDepth 16384

noncomputable section

namespace Cert.Spec

open Finset Idealize.ShloMosaic Idealize.ShloMosaic.Routing Idealize.ShloMosaic.ValueIdx

/-- A left fold that adds reals. -/
theorem foldl_add_coe {ι : Type} (l : List ι) (g : ι → EReal) (f : ι → ℝ) (hg : ∀ n, g n = (f n : EReal)) (z : ℝ) :
    l.foldl (fun r n => r + g n) (z : EReal) = ((z + (l.map f).sum : ℝ) : EReal) := by
  induction l generalizing z with
  | nil => simp
  | cons a l ih =>
    rw [List.foldl_cons, hg a, ← EReal.coe_add, ih, List.map_cons, List.sum_cons, add_assoc]

/-- A window that ends at entry `j` sums the entries up to it. -/
theorem sum_prefix (f : ℕ → ℝ) (p j : ℕ) (hj : j ≤ p) :
    ∑ w ∈ range (p + 1), (if p ≤ j + w then f (j + w - p) else 0) = ∑ i ∈ range (j + 1), f i := by
  obtain ⟨d, rfl⟩ : ∃ d, p = j + d := ⟨p - j, by omega⟩
  rw [show j + d + 1 = d + (j + 1) by omega, sum_range_add, sum_eq_zero fun w hw => if_neg (by have := mem_range.1 hw; omega), zero_add]
  refine sum_congr rfl fun i _ => ?_
  rw [if_pos (by omega)]
  congr 1
  omega

/-- The running sum of a row of reals. -/
theorem running_sum {N p : ℕ} (hN : p + 1 = N) (x : (shape1 N).Idx → EReal) (f : ℕ → ℝ) (hx : ∀ i : Fin N, x (ix1 i) = (f i : EReal))
    (h : (shape1 N).ReduceWindows (![N] : Fin 1 → ℕ) ![1] ![p] ![0] (shape1 N)) (j : Fin N) :
    Ideal.hostReduceWindowAdd ![N] ![1] ![p] ![0] h x ((0 : ℝ) : EReal) (ix1 j) = ((∑ i ∈ range (j.val + 1), f i : ℝ) : EReal) := by
  subst hN
  have hj := j.isLt
  unfold Ideal.hostReduceWindowAdd Host.reduceWindow
  refine (foldl_add_coe _ _ (fun n => if p ≤ j.val + n.val then f (j.val + n.val - p) else 0) (fun n => ?_) 0).trans ?_
  · have hw : ((shape1 (p + 1)).rowMajor.symm n 0).val = n.val := by rw [symm1]; rfl
    have hn : n.val < p + 1 := (n.cast (numel1 _)).isLt
    dsimp only
    split
    · next hin =>
      have h0 := hin 0
      change p ≤ j.val * 1 + ((shape1 (p + 1)).rowMajor.symm n 0).val
        ∧ j.val * 1 + ((shape1 (p + 1)).rowMajor.symm n 0).val - p < p + 1 at h0
      rw [hw] at h0
      rw [if_pos (by omega)]
      refine (congrArg x (funext fun a => Fin.ext ?_)).trans (hx ⟨j.val + n.val - p, by omega⟩)
      match a with
      | ⟨0, _⟩ =>
        change j.val * 1 + ((shape1 (p + 1)).rowMajor.symm n 0).val - p = j.val + n.val - p
        rw [hw, Nat.mul_one]
    · next hin =>
      rw [if_neg fun hle => hin fun a => by
        match a with
        | ⟨0, _⟩ =>
          change p ≤ j.val * 1 + ((shape1 (p + 1)).rowMajor.symm n 0).val
            ∧ j.val * 1 + ((shape1 (p + 1)).rowMajor.symm n 0).val - p < p + 1
          rw [hw]
          omega]
  · rw [zero_add, map_finRange_val _ (fun w => if p ≤ j.val + w then f (j.val + w - p) else 0)]
    refine congrArg Real.toEReal ?_
    rw [← sum_prefix f p j.val (by omega)]
    exact congrArg (fun M => ((List.range M).map fun w => if p ≤ j.val + w then f (j.val + w - p) else 0).sum) (numel1 (p + 1))

end Cert.Spec
-- ==== Proof.RefTable.lean ====
/-
  The reference's table over the reals: its points and its slopes.
-/
module

public import proofs.«01_k».proof.Proof.Gen.ReferenceIdeal.Run
public import proofs.«01_k».proof.Proof.Slope
public import proofs.«01_k».proof.Proof.Cumsum
public import Idealize.ShloMosaic.Lib.Pointwise

@[expose] public section

set_option maxRecDepth 16384

noncomputable section

namespace Cert.ReferenceIdeal.Hand

open Cert.ReferenceIdeal Cert.ReferenceIdeal.Gen Cert.ReferenceIdeal.Value Cert.Consts Cert.Spec
open Idealize.ShloMosaic Idealize.ShloMosaic.Tactic

variable (V : Valuation τ sig (Elt Ideal))

/-- A point's number as a real is itself. -/
theorem sitofp_nat (n : ℕ) (h : n < 512) : FloatOps.sitofp (F := Ideal) FTy.f32 (BitVec.ofNat 32 n) = ((n : ℝ) : EReal) := by
  have e : (BitVec.ofNat 32 n).toInt = n := WordCmp.toInt_ofNat_of_lt (by norm_num; omega)
  simp [FloatOps.sitofp, e]

/-- A literal denotes the value of its word. -/
theorem word_eq (w : BitVec 32) : FloatOps.ofBits (F := Ideal) FTy.f32 w = Ideal.ofBits FTy.f32 w := rfl

/-- The quotient of two reals, the second not zero, is the real quotient. -/
theorem div_real (x : ℝ) {y : ℝ} (h : y ≠ 0) : Ideal.div (x : EReal) (y : EReal) = ((x / y : ℝ) : EReal) := by
  rw [Ideal.div_coe h, ← EReal.coe_mul, mul_one_div]

/-- The points. -/
theorem points_at (k : Fin 400) : (res_main_v2 V (ix2 k 0) : EReal) = (point k : EReal) := by
  have hk := k.isLt
  pointwise [res_main_v2, res_main_call0_v0, res_main_call0_v1, res_main_call0_v6]
  simp only [id, constant, word_eq]
  rw [c_neg_three, c_three, c_399, sitofp_nat _ (by omega), div_real _ (by norm_num), ← EReal.coe_one, ← EReal.coe_sub, ← EReal.coe_mul,
    ← EReal.coe_mul, ← EReal.coe_add]
  unfold point
  split_ifs with h
  · congr 1
    ring
  · rw [show k.val = 399 by omega]
    congr 1
    norm_num

/-- The slopes a valuation's weights make. -/
def slopesOf : ℕ → ℝ :=
  slopes (fun j => V (Proc.devRef .tc main_arg1) (ix2 j 0)) (fun j => V (Proc.devRef .tc main_arg2) (ix1 j))
    (fun i j => V (Proc.devRef .tc main_arg3) (ix2 i j)) (fun i => V (Proc.devRef .tc main_arg4) (ix1 i))
    (fun i => V (Proc.devRef .tc main_arg5) (ix2 0 i)) (V (Proc.devRef .tc main_arg6) (ix1 0))

/-- The slopes. -/
theorem slopes_at (k : Fin 400) : (res_main_v22 V (ix1 k) : EReal) = (slopesOf V k : EReal) := by
  pointwise [res_main_v22]
  simp only [id, constant, word_eq]
  rw [c_one, c_neg_one]
  unfold slopesOf slopes layers
  rw [← expClip_eq]
  refine congrArg (fun x => Ideal.exp (min _ (max _ x))) (congrArg (· + _) (Finset.sum_congr rfl fun i _ => ?_))
  rw [mul_comm]
  refine congrArg (fun x => _ * Ideal.tanh (x + _)) (Finset.sum_congr rfl fun j _ => ?_)
  rw [Fin.sum_univ_one, points_at, mul_comm]

/-- The step between points. -/
theorem dt_at : (res_main_v0 V ix0 : EReal) = ((2 / 133 : ℝ) : EReal) := by
  pointwise [res_main_v0]
  rw [c_six, c_399, div_real _ (by norm_num)]
  norm_num

/-- The points, as one row. -/
theorem row_at (k : Fin 400) : (res_main_v33 V (ix1 k) : EReal) = (point k : EReal) := by
  pointwise [res_main_v33]
  exact points_at V k

/-- One trapezoid. -/
theorem trapezoid_at (i : Fin 399) :
    (mulf (F := Ideal) (φ := .f32) (mulf (broadcastInDim S399 ![] bcast_S_S399 (constant S_ .f32 0x3F000000#32))
      (addf (extractStridedSlice S399 ![0] (res_main_v22 V) slices_S400_S399_0) (extractStridedSlice S399 ![1] (res_main_v22 V) slices_S400_S399_1)))
      (broadcastInDim S399 ![] bcast_S_S399 (res_main_v0 V)) (ix1 i) : EReal)
      = ((1 / 133 * (slopesOf V i + slopesOf V (i + 1)) : ℝ) : EReal) := by
  pointwise
  rw [c_half, dt_at, slopes_at, slopes_at, ← EReal.coe_add, ← EReal.coe_mul, ← EReal.coe_mul]
  congr 1
  ring_nf

/-- The intercepts. -/
theorem icept_at (k : Fin 400) : (res_main_v35 V (ix1 k) : EReal) = (icept (slopesOf V) k : EReal) := by
  have hk := k.isLt
  pointwise [res_main_v35]
  rw [row_at, slopes_at, ← EReal.coe_mul]
  have e : (if h : k.val < 1 then (0 : EReal) else
      Host.reduceWindowAdd (F := Ideal) (φ := .f32) ![399] ![1] ![398] ![0]
          (mulf (mulf (broadcastInDim S399 ![] bcast_S_S399 (constant S_ FTy.f32 1056964608#32))
              (addf (extractStridedSlice S399 ![0] (res_main_v22 V) slices_S400_S399_0)
                (extractStridedSlice S399 ![1] (res_main_v22 V) slices_S400_S399_1)))
            (broadcastInDim S399 ![] bcast_S_S399 (res_main_v0 V)))
          (broadcastInDim S_ ![] bcast_S_S_ (constant S_ FTy.f32 0#32)) reduceWindows_S399_S399_w399s1p398_0 h_S_
          (ix1 ⟨k.val - 1, by omega⟩)) = (cum (slopesOf V) k : EReal) := by
    by_cases h : k.val < 1
    · rw [dif_pos h, show k.val = 0 by omega]
      simp [cum]
    · rw [dif_neg h]
      have r := running_sum (N := 399) (p := 398) rfl _ (fun i => 1 / 133 * (slopesOf V i + slopesOf V (i + 1))) (trapezoid_at V)
        reduceWindows_S399_S399_w399s1p398_0 ⟨k.val - 1, by omega⟩
      rw [← c_zero] at r
      refine Eq.trans r ?_
      unfold cum
      rw [show k.val - 1 + 1 = k.val by omega]
  refine (congrArg (· - _) e).trans ?_
  rw [← EReal.coe_sub]
  rfl

/-- The least of a row of 400 reals and the pad. -/
theorem least_row (x : ℕ → ℝ) (pad : ℝ) (f : S400.Idx → EReal) (hf : ∀ k : Fin 400, f (ix1 k) = (x k : EReal)) :
    min (Finset.fold min (Ideal.ofBits FTy.f32 2139095040#32) f {i | reducesTo_S400_S_d0.drop i = ix0}) (pad : EReal) = (low x pad : EReal) := by
  have hf' : ∀ i : S400.Idx, f i = (x (i 0).val : EReal) := fun i => (congrArg f (Idealize.ShloMosaic.eq_ix1 i)).trans (hf (i 0))
  rw [c_top, fold_min_of (r := (((Finset.range 400).inf' ⟨0, by simp⟩ x : ℝ) : EReal)), ← coe_min]
  · rfl
  · intro i _
    rw [hf', EReal.coe_le_coe_iff]
    exact Finset.inf'_le _ (Finset.mem_range.2 (i 0).isLt)
  · obtain ⟨k, hk, e⟩ := Finset.exists_mem_eq_inf' (s := Finset.range 400) ⟨0, by simp⟩ x
    refine ⟨ix1 ⟨k, Finset.mem_range.1 hk⟩, Finset.mem_filter.2 ⟨Finset.mem_univ _, Subsingleton.elim _ _⟩, le_of_eq ?_⟩
    rw [hf, e]

/-- The greatest of a row of 400 reals and the pad. -/
theorem greatest_row (x : ℕ → ℝ) (pad : ℝ) (f : S400.Idx → EReal) (hf : ∀ k : Fin 400, f (ix1 k) = (x k : EReal)) :
    max (Finset.fold max (Ideal.ofBits FTy.f32 4286578688#32) f {i | reducesTo_S400_S_d0.drop i = ix0}) (pad : EReal) = (high x pad : EReal) := by
  have hf' : ∀ i : S400.Idx, f i = (x (i 0).val : EReal) := fun i => (congrArg f (Idealize.ShloMosaic.eq_ix1 i)).trans (hf (i 0))
  rw [c_bot, fold_max_of (r := (((Finset.range 400).sup' ⟨0, by simp⟩ x : ℝ) : EReal)), ← coe_max]
  · rfl
  · intro i _
    rw [hf', EReal.coe_le_coe_iff]
    exact Finset.le_sup' _ (Finset.mem_range.2 (i 0).isLt)
  · obtain ⟨k, hk, e⟩ := Finset.exists_mem_eq_sup' (s := Finset.range 400) ⟨0, by simp⟩ x
    refine ⟨ix1 ⟨k, Finset.mem_range.1 hk⟩, Finset.mem_filter.2 ⟨Finset.mem_univ _, Subsingleton.elim _ _⟩, le_of_eq ?_⟩
    rw [hf, e]

/-- The grid's step, from the least and the greatest value. -/
theorem step_real (x : ℕ → ℝ) (pad : ℝ) :
    max (Ideal.div ((high x pad : EReal) - (low x pad : EReal)) ((65535 : ℝ) : EReal)) (tiny : EReal) = (step x pad : EReal) := by
  rw [← EReal.coe_sub, div_real _ (by norm_num), ← coe_max]
  rfl

/-- The value `v` moved to the grid. -/
theorem snap_real (x : ℕ → ℝ) (pad v : ℝ) :
    Ideal.liftRound Int.floor (Ideal.div ((v : EReal) - (low x pad : EReal)) (step x pad : EReal) + ((1 / 2 : ℝ) : EReal)) * (step x pad : EReal)
      + (low x pad : EReal) = (snap x pad v : EReal) := by
  rw [← EReal.coe_sub, div_real _ (step_pos x pad).ne', ← EReal.coe_add, Ideal.liftRound_coe, ← EReal.coe_mul, ← EReal.coe_add]
  rfl

/-- The least intercept. -/
theorem low_at : (res_main_v37 V ix0 : EReal) = (low (icept (slopesOf V)) 0 : EReal) := by
  pointwise [res_main_v37]
  exact least_row _ 0 _ (icept_at V)

/-- The step of the intercepts' grid. -/
theorem step_at : (res_main_v42 V ix0 : EReal) = (step (icept (slopesOf V)) 0 : EReal) := by
  pointwise [res_main_v42]
  have e := greatest_row _ 0 _ (icept_at V)
  rw [EReal.coe_zero] at e
  refine (congrArg (fun x : EReal => max (Ideal.div (x - (res_main_v37 V ix0 : EReal)) (Ideal.ofBits FTy.f32 1199570688#32))
    (Ideal.ofBits FTy.f32 228737632#32)) e).trans ?_
  beta_reduce
  rw [low_at, c_65535, c_tiny, step_real]

/-- The least slope. -/
theorem low1_at : (res_main_v55 V ix0 : EReal) = (low (slopesOf V) 1 : EReal) := by
  pointwise [res_main_v55]
  exact least_row _ 1 _ (slopes_at V)

/-- The step of the slopes' grid. -/
theorem step1_at : (res_main_v60 V ix0 : EReal) = (step (slopesOf V) 1 : EReal) := by
  pointwise [res_main_v60]
  have e := greatest_row _ 1 _ (slopes_at V)
  rw [EReal.coe_one] at e
  refine (congrArg (fun x : EReal => max (Ideal.div (x - (res_main_v55 V ix0 : EReal)) (Ideal.ofBits FTy.f32 1199570688#32))
    (Ideal.ofBits FTy.f32 228737632#32)) e).trans ?_
  beta_reduce
  rw [low1_at, c_65535, c_tiny, step_real]

/-- The rounded slopes. -/
theorem slope16_at (k : Fin 400) : (res_main_v71 V (ix1 k) : EReal) = (slope16 (slopesOf V) k : EReal) := by
  pointwise [res_main_v71]
  rw [c_half, slopes_at, low1_at, step1_at, snap_real]
  rfl

/-- The table's values, rebuilt from the rounded lines. -/
theorem value16_at (k : Fin 400) :
    (res_main_v73 V (ix1 k) : EReal) = ((icept16 (slopesOf V) k + point k * slope16 (slopesOf V) k : ℝ) : EReal) := by
  pointwise [res_main_v73]
  rw [c_half, icept_at, low_at, step_at, snap_real, row_at, slope16_at, ← EReal.coe_mul, ← EReal.coe_add]
  rfl

end Cert.ReferenceIdeal.Hand
-- ==== Proof.RefSample.lean ====
/-
  The reference's interpolated samples over the reals.
-/
module

public import proofs.«01_k».proof.Proof.RefTable

@[expose] public section

set_option maxRecDepth 16384

noncomputable section

namespace Cert.ReferenceIdeal.Hand

open Cert.ReferenceIdeal Cert.ReferenceIdeal.Gen Cert.ReferenceIdeal.Value Cert.Consts Cert.Spec
open Idealize.ShloMosaic Idealize.ShloMosaic.Tactic

/-- The gather, read at one sample. -/
theorem gather_at (x : S400.Idx → EReal) (idx : IVec S8388608x1 32) (n : Fin 8388608) (k : ℕ) (hk : k < 400)
    (h : (idx (ix2 n 0)).toInt = (k : ℤ)) :
    Host.gather gather_S400_S8388608x1_S8388608_n_0_n_n_0_1_1 x idx (ix1 n) = x (ix1 ⟨k, hk⟩) := by
  unfold Host.gather
  congr 1
  funext a
  obtain rfl : a = 0 := Subsingleton.elim _ _
  refine Fin.ext ?_
  change gather_S400_S8388608x1_S8388608_n_0_n_n_0_1_1.start (ix1 n) idx 0 + gather_S400_S8388608x1_S8388608_n_0_n_n_0_1_1.batchCoord (ix1 n) 0
    + gather_S400_S8388608x1_S8388608_n_0_n_n_0_1_1.offCoord (ix1 n) 0 = k
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S400_S8388608x1_S8388608_n_0_n_n_0_1_1.startIndexMap from List.mem_singleton.mpr rfl)]
  have hsi : gather_S400_S8388608x1_S8388608_n_0_n_n_0_1_1.siIdx (ix1 n) ⟨List.idxOf (0 : Fin 1) gather_S400_S8388608x1_S8388608_n_0_n_n_0_1_1.startIndexMap,
      List.idxOf_lt_length_iff.2 (List.mem_singleton.mpr rfl)⟩ = ix2 n 0 := by
    funext b; refine Fin.ext ?_
    match b with
    | ⟨0, _⟩ => rfl
    | ⟨1, _⟩ => rfl
  rw [hsi, h]
  change min ((k : ℤ)).toNat (400 - 1) = k
  omega

variable (V : Valuation τ sig (Elt Ideal)) {z : ℕ → ℝ}

/-- The samples, as one row. -/
theorem z_at (hz : ∀ n : Fin 8388608, V (Proc.devRef .tc main_arg0) (ix2 n 0) = (z n : EReal)) (n : Fin 8388608) :
    (res_main_v74 V (ix1 n) : EReal) = (z n : EReal) := by
  pointwise [res_main_v74]
  exact hz n

/-- The place of a sample among the points. -/
theorem pos_at (hz : ∀ n : Fin 8388608, V (Proc.devRef .tc main_arg0) (ix2 n 0) = (z n : EReal)) (n : Fin 8388608) :
    (res_main_v78 V (ix1 n) : EReal) = (((z n + 3) * (133 / 2) : ℝ) : EReal) := by
  pointwise [res_main_v78]
  rw [z_at V hz, c_neg_three, dt_at, ← EReal.coe_sub, div_real _ (by norm_num)]
  congr 1
  ring

/-- The line of a sample between the ends, as a number. -/
def cellOf (r : ℝ) : ℕ := ⌊min 398 (max 0 ((r + 3) * (133 / 2)))⌋₊

/-- The number of a cell is below 399. -/
theorem cellOf_lt (r : ℝ) : cellOf r < 399 := by
  refine (Nat.floor_lt (by positivity)).2 ?_
  exact lt_of_le_of_lt (min_le_left _ _) (by norm_num)

/-- The clipped number of a line is the number of the line of the clipped place. -/
theorem cellOf_eq (r : ℝ) : (cellOf r : ℤ) = min 398 (max 0 ⌊(r + 3) * (133 / 2)⌋) := by
  unfold cellOf
  rw [Int.natCast_floor_eq_floor (by positivity), (Int.floor_mono : Monotone (Int.floor : ℝ → ℤ)).map_min,
    (Int.floor_mono : Monotone (Int.floor : ℝ → ℤ)).map_max, Int.floor_zero, Int.floor_ofNat]

/-- The lesser of two words is the lesser of their integers. -/
theorem toInt_min (a b : BitVec 32) : (IntOp.minsi a b).toInt = min a.toInt b.toInt := by
  unfold IntOp.minsi
  simp only [BitVec.slt, decide_eq_true_eq]
  split_ifs <;> omega

/-- The greater of two words is the greater of their integers. -/
theorem toInt_max (a b : BitVec 32) : (IntOp.maxsi a b).toInt = max a.toInt b.toInt := by
  unfold IntOp.maxsi
  simp only [BitVec.slt, decide_eq_true_eq]
  split_ifs <;> omega

/-- A whole number turned into a word and read back, clamped to 32 bits. -/
theorem fptosi_whole (c : ℤ) : (Ideal.fptosi 32 (((c : ℝ)) : EReal)).toInt = max (-2147483648) (min 2147483647 c) := by
  have e : (if (0 : ℝ) ≤ (c : ℝ) then ⌊(c : ℝ)⌋ else ⌈(c : ℝ)⌉) = c := by
    rw [Int.floor_intCast, Int.ceil_intCast, ite_self]
  rw [Ideal.fptosi, Ideal.toIntClamped_coe, e, BitVec.toInt_ofInt]
  norm_num [Int.bmod]
  omega

/-- The line of a sample, as a word. -/
theorem line_at (hz : ∀ n : Fin 8388608, V (Proc.devRef .tc main_arg0) (ix2 n 0) = (z n : EReal)) (n : Fin 8388608) :
    (res_main_v81 V (ix1 n) : BitVec 32).toInt = cellOf (z n) := by
  pointwise [res_main_v81]
  rw [pos_at V hz, toInt_min, toInt_max, Ideal.liftRound_coe, cellOf_eq]
  have e := fptosi_whole ⌊(z n + 3) * (133 / 2)⌋
  change min 398 (max 0 (Ideal.fptosi 32 _).toInt) = _
  rw [e]
  omega

/-- The word the gathers read: no line is below zero, so none is wrapped. -/
theorem wrapped_at (hz : ∀ n : Fin 8388608, V (Proc.devRef .tc main_arg0) (ix2 n 0) = (z n : EReal)) (n : Fin 8388608) :
    (broadcastInDim S8388608x1 ![0] bcast_S8388608_S8388608x1_0
      (select (cmpi CmpIPredicate.slt (res_main_v81 V) (broadcastInDim S8388608 ![] bcast_S_S8388608 (constantI S_ 32 0#32)))
        (addi (res_main_v81 V) (broadcastInDim S8388608 ![] bcast_S_S8388608 (constantI S_ 32 400#32)))
        (res_main_v81 V)) (ix2 n 0) : BitVec 32).toInt = cellOf (z n) := by
  have h := line_at V hz n
  pointwise
  unfold IntOp.cmpi Scalar.select
  have e : BitVec.slt (res_main_v81 V (ix1 n) : BitVec 32) 0#32 = false := by
    unfold BitVec.slt
    rw [h]
    exact decide_eq_false (not_lt.2 (Int.natCast_nonneg _))
  refine (congrArg BitVec.toInt (if_neg ?_)).trans h
  change ¬BitVec.ofBool (BitVec.slt (res_main_v81 V (ix1 n) : BitVec 32) 0#32) = 1#1
  rw [e]
  decide

/-- A sample between the ends, from its line. -/
theorem mid_eq (w : ℕ → ℝ) (r : ℝ) (h0 : -3 ≤ r) (h1 : r ≤ 3) :
    icept16 w (cellOf r) + point (cellOf r) * slope16 w (cellOf r)
      + min 1 (max 0 ((r + 3) * (133 / 2) - cellOf r)) * slope16 w (cellOf r) * (2 / 133) = sample w r := by
  have hp : pick r = cellOf r := by unfold pick cellOf; rw [if_neg (by linarith)]
  have hr : 0 ≤ (r + 3) * (133 / 2) := by linarith
  have h399 : (r + 3) * (133 / 2) ≤ 399 := by linarith
  have hb0 : (cellOf r : ℝ) ≤ (r + 3) * (133 / 2) := by
    refine (Nat.floor_le (by positivity)).trans ?_
    rw [max_eq_right hr]
    exact min_le_right _ _
  have hb1 : (r + 3) * (133 / 2) - cellOf r ≤ 1 := by
    by_cases h : (r + 3) * (133 / 2) ≤ 398
    · have := Nat.lt_floor_add_one (min 398 (max 0 ((r + 3) * (133 / 2))))
      rw [max_eq_right hr, min_eq_right h] at this
      unfold cellOf
      rw [max_eq_right hr, min_eq_right h]
      linarith
    · have : cellOf r = 398 := by
        unfold cellOf
        rw [max_eq_right hr, min_eq_left (by linarith)]
        exact Nat.floor_ofNat 398
      rw [this]
      push_cast
      linarith
  unfold sample
  rw [hp, max_eq_right (by linarith), min_eq_right hb1]
  unfold point
  ring

/-- Left of the points, the extrapolation is the first line. -/
theorem below_eq (w : ℕ → ℝ) (r : ℝ) (h : r < -3) : icept16 w 0 + point 0 * slope16 w 0 + (r - -3) * slope16 w 0 = sample w r := by
  have hp : pick r = 0 := by
    unfold pick
    rw [if_neg (by linarith), max_eq_left (by linarith), min_eq_right (by norm_num), Nat.floor_zero]
  unfold sample point
  rw [hp]
  push_cast
  ring

/-- Right of the points, the extrapolation is the last line. -/
theorem above_eq (w : ℕ → ℝ) (r : ℝ) (h : 3 < r) :
    icept16 w 399 + point 399 * slope16 w 399 + (r - 3) * slope16 w 399 = sample w r := by
  have hp : pick r = 399 := by unfold pick; rw [if_pos h]
  unfold sample point
  rw [hp]
  push_cast
  ring

/-- The samples. -/
theorem sample_at (hz : ∀ n : Fin 8388608, V (Proc.devRef .tc main_arg0) (ix2 n 0) = (z n : EReal)) (n : Fin 8388608) :
    (res_main_v129 V (ix2 n 0) : EReal) = (sample (slopesOf V) (z n) : EReal) := by
  have hl : FloatOps.sitofp (F := Ideal) FTy.f32 (res_main_v81 V (ix1 n) : BitVec 32) = ((cellOf (z n) : ℝ) : EReal) := by
    change ((((res_main_v81 V (ix1 n) : BitVec 32).toInt : ℝ)) : EReal) = _
    rw [line_at V hz n]
    push_cast
    rfl
  have hk : cellOf (z n) < 400 := (cellOf_lt _).trans (by norm_num)
  pointwise [res_main_v129]
  rw [gather_at _ _ n _ hk (wrapped_at V hz n), gather_at _ _ n _ hk (wrapped_at V hz n), hl, z_at V hz, pos_at V hz, c_neg_three, c_three,
    dt_at, value16_at, slope16_at, value16_at, slope16_at, value16_at, slope16_at]
  simp only [id, constant, word_eq]
  rw [c_one, c_zero]
  simp only [← EReal.coe_sub, ← EReal.coe_mul, ← EReal.coe_add, ← coe_max, ← coe_min, EReal.coe_lt_coe_iff]
  split_ifs with h h'
  · exact congrArg _ (below_eq _ _ h)
  · exact congrArg _ (above_eq _ _ h')
  · exact congrArg _ (mid_eq _ _ (not_lt.1 h) (not_lt.1 h'))

end Cert.ReferenceIdeal.Hand
-- ==== Proof.RefOut.lean ====
/-
  The reference's result over the reals: the samples, normalised, scaled and moved.
-/
module

public import proofs.«01_k».proof.Proof.RefSample
public import proofs.«01_k».proof.Proof.Scale

@[expose] public section

set_option maxRecDepth 16384

noncomputable section

namespace Cert.ReferenceIdeal.Hand

open Cert.ReferenceIdeal Cert.ReferenceIdeal.Gen Cert.ReferenceIdeal.Value Cert.Consts Cert.Spec
open Idealize.ShloMosaic Idealize.ShloMosaic.Tactic

variable (V : Valuation τ sig (Elt Ideal)) {z : ℕ → ℝ}

/-- The sum of a column of reals. -/
theorem sum_col {N : ℕ} (f : ℕ → ℝ) (g : Fin N → Fin 1 → EReal) (h : ∀ n, g n 0 = (f n : EReal)) :
    ∑ n, ∑ i, g n i = ((∑ n ∈ Finset.range N, f n : ℝ) : EReal) := by
  rw [coe_sum, ← Fin.sum_univ_eq_sum_range (fun n => (f n : EReal)) N]
  refine Finset.sum_congr rfl fun n _ => ?_
  rw [Fin.sum_univ_one, h]

/-- The mean. -/
theorem mean_at (f : ℕ → ℝ) (hf : ∀ n : Fin 8388608, (res_main_v129 V (ix2 n 0) : EReal) = (f n : EReal)) :
    Ideal.div (∑ n : Fin 8388608, ∑ i : Fin 1, (res_main_v129 V (ix2 n i) : EReal)) (Ideal.ofBits FTy.f32 1258291200#32) = (mean f : EReal) := by
  rw [sum_col f (fun n i => (res_main_v129 V (ix2 n i) : EReal)) hf, c_count, div_real _ (by norm_num)]
  rfl

/-- The deviation of a sample from the mean. -/
theorem dev_at (f : ℕ → ℝ) (hf : ∀ n : Fin 8388608, (res_main_v129 V (ix2 n 0) : EReal) = (f n : EReal)) (n : Fin 8388608) :
    (res_main_call7_call0_v5 V (ix2 n 0) : EReal) = ((f n - mean f : ℝ) : EReal) := by
  pointwise [res_main_call7_call0_v5]
  refine (congrArg₂ (fun x y : EReal => x - y) (hf n) (mean_at V f hf)).trans ?_
  exact (EReal.coe_sub _ _).symm

/-- The deviations, as extended reals. -/
def devs (n : Fin 8388608) (i : Fin 1) : EReal := res_main_call7_call0_v5 V (ix2 n i)

/-- The sum of the squared deviations. -/
theorem squares_at (f : ℕ → ℝ) (hf : ∀ n : Fin 8388608, (res_main_v129 V (ix2 n 0) : EReal) = (f n : EReal)) :
    ∑ n : Fin 8388608, ∑ i : Fin 1, devs V n i * devs V n i = (dev f : EReal) := by
  refine sum_col (fun n => (f n - mean f) * (f n - mean f)) (fun n i => devs V n i * devs V n i) fun n => ?_
  have h : devs V n 0 = ((f n - mean f : ℝ) : EReal) := dev_at V f hf n
  beta_reduce
  rw [h, ← EReal.coe_mul]

/-- One less than the number of samples. -/
theorem count_at : (res_main_call7_call0_v8 V ix0 : EReal) = ((8388607 : ℝ) : EReal) := by
  pointwise [res_main_call7_call0_v8]
  have e : FloatOps.sitofp (F := Ideal) FTy.f32 1#32 = ((1 : ℝ) : EReal) := by simp [FloatOps.sitofp]
  rw [c_count, e, ← EReal.coe_sub]
  norm_num

/-- The gain, from the raw parameter. -/
theorem gain_at (x : EReal) (h : x < ⊤) :
    (if x ≠ x then x else max x 0 + Ideal.log1p (Ideal.exp (-FloatOps.absf (F := Ideal) (φ := .f32) x))) + Ideal.ofBits FTy.f32 981668463#32 = (gain x : EReal) := by
  rw [if_neg (by simp), c_scaleAdd]
  refine (congrArg (· + (scaleAdd : EReal)) (softplus_eq h)).trans ?_
  beta_reduce
  rw [← EReal.coe_add]
  rfl

/-- The spread. -/
theorem spread_at (f : ℕ → ℝ) (c s x : EReal) (hc : c = ((8388607 : ℝ) : EReal)) (hs : s = (dev f : EReal)) :
    max (Ideal.sqrt (if 0 < c then Ideal.div s c else x)) (Ideal.ofBits FTy.f32 897988541#32) = (spread f : EReal) := by
  have h : (0 : EReal) < ((8388607 : ℝ) : EReal) := by
    rw [← EReal.coe_zero, EReal.coe_lt_coe_iff]
    norm_num
  rw [hc, hs, if_pos h, div_real _ (by norm_num), sqrt_eq (div_nonneg (dev_nonneg f) (by norm_num)), c_sigFloor, ← coe_max]
  rfl

/-- The result, as the run names it. -/
def out : FVec Ideal S8388608x1 .f32 := addf (mulf (broadcastInDim S8388608x1 ![] bcast_S_S8388608x1 (addf (select (cmpf .une (res_main_call8_v1 V) (res_main_call8_v1 V)) (addf (V (Proc.devRef .tc main_arg7)) (res_main_call8_cst V)) (addf (maximumf (V (Proc.devRef .tc main_arg7)) (res_main_call8_cst V)) (Host.log1p (Host.exp (Host.negf (Host.absf (res_main_call8_v1 V))))))) (constant S_ .f32 0x3A83126F#32))) (Host.divf (subf (res_main_v129 V) (broadcastInDim S8388608x1 ![] bcast_S_S8388608x1 (Host.divf (Host.reduceAdd (res_main_v129 V) (constant S_ .f32 0x00000000#32) reducesTo_S8388608x1_S_d0_1 h_S_) (constant S_ .f32 0x4B000000#32)))) (broadcastInDim S8388608x1 ![] bcast_S_S8388608x1 (maximumf (Host.sqrt (select (cmpf .ogt (res_main_call7_call0_v8 V) (constant S_ .f32 0x00000000#32)) (Host.divf (Host.reduceAdd (mulf (res_main_call7_call0_v5 V) (res_main_call7_call0_v5 V)) (constant S_ .f32 0x00000000#32) reducesTo_S8388608x1_S_d0_1 h_S_) (res_main_call7_call0_v8 V)) (id (constant S_ .f32 0x7FC00000#32)))) (constant S_ .f32 0x358637BD#32))))) (broadcastInDim S8388608x1 ![] bcast_S_S8388608x1 (V (Proc.devRef .tc main_arg8)))

/-- The reference's result at a place, from the interpolated samples, `a_raw` and `b_param`. -/
theorem out_at (f : ℕ → ℝ) (hf : ∀ n : Fin 8388608, (res_main_v129 V (ix2 n 0) : EReal) = (f n : EReal)) {a : EReal}
    (ht : a < ⊤) (ha : V (Proc.devRef .tc main_arg7) ix0 = a) (n : Fin 8388608) :
    (out V (ix2 n 0) : EReal) = result f a (V (Proc.devRef .tc main_arg8) ix0) n := by
  subst ha
  pointwise [out, res_main_call8_v1, res_main_call8_cst]
  have e : Ideal.div ((f n : EReal) - (mean f : EReal)) (spread f : EReal) = (((f n - mean f) / spread f : ℝ) : EReal) := by
    rw [← EReal.coe_sub, div_real _ (spread_pos f).ne']
  unfold result
  rw [EReal.coe_mul, ← e]
  refine congrArg (· + _) (congrArg₂ (· * ·) (gain_at _ ht) (congrArg₂ Ideal.div (congrArg₂ (· - ·) (hf n) (mean_at V f hf)) ?_))
  exact spread_at f _ _ _ (count_at V) (squares_at V f hf)

end Cert.ReferenceIdeal.Hand
-- ==== Proof.Value.lean ====
/-
  The value claim: on finite samples and a raw gain below infinity, the kernel and the reference end with the same result.
-/
module

public import proofs.«01_k».proof.Defs
public import proofs.«01_k».proof.Proof.KernelValue
public import proofs.«01_k».proof.Proof.RefOut

@[expose] public section

set_option maxRecDepth 16384

noncomputable section

namespace Cert.ValueClaim

open Cert.Spec Cert.Consts
open Idealize.ShloMosaic Idealize.ShloMosaic.Tactic Idealize.ShloMosaic.TcCoe Idealize.ShloMosaic.StableHlo Idealize.SL.Sem

/-- The precondition's one side condition. -/
instance facts : Cert.Pre_finite.Facts := ⟨by decide⟩

/-- What is below infinity in absolute value is real. -/
theorem real_of_abs (x : EReal) (h : max x (-x) < ⊤) : ∃ r : ℝ, x = (r : EReal) := by
  induction x using EReal.rec with
  | bot => simp at h
  | coe r => exact ⟨r, rfl⟩
  | top => simp at h

variable (m : (ℓ : Loc Cert.KernelIdeal.nD Cert.KernelIdeal.τ Cert.KernelIdeal.sig) → Buf (Elt Ideal) ℓ)

/-- What the precondition says: every sample is a real and `a_raw` is below the top. -/
theorem pre_real (h : Cert.Pre_KernelIdeal_finite m) (c : Dev Cert.KernelIdeal.nD) (n : Fin 8388608) :
    (∃ r : ℝ, m ((c : Thread Cert.KernelIdeal.nD Cert.KernelIdeal.τ).loc Cert.KernelIdeal.main_arg0) (ix2 n 0) = (r : EReal))
      ∧ Cert.KernelIdeal.Hand.rawOf m c < ⊤ := by
  have h' := congrFun (h c) (ix2 n 0)
  revert h'
  pointwise [Cert.Pre_finite.fn]
  rw [c_top]
  intro h'
  have both : ∀ p q : Bool, IntOp.andi (BitVec.ofBool p) (BitVec.ofBool q) = 1#1 → p = true ∧ q = true := by decide
  obtain ⟨h0, h7⟩ := both _ _ h'
  exact ⟨real_of_abs _ (of_decide_eq_true h0), of_decide_eq_true h7⟩

/-- The slopes from the six weight arrays. -/
def slopesFrom (w1 : FVec Ideal ⟨2, ![64, 1]⟩ .f32) (b1 : FVec Ideal ⟨1, ![64]⟩ .f32) (w2 : FVec Ideal ⟨2, ![64, 64]⟩ .f32)
    (b2 : FVec Ideal ⟨1, ![64]⟩ .f32) (w3 : FVec Ideal ⟨2, ![1, 64]⟩ .f32) (b3 : FVec Ideal ⟨1, ![1]⟩ .f32) : ℕ → ℝ :=
  slopes (fun j => w1 (ix2 j 0)) (fun j => b1 (ix1 j)) (fun i j => w2 (ix2 i j)) (fun i => b2 (ix1 i)) (fun i => w3 (ix2 0 i)) (b3 (ix1 0))

/-- Equal parameters of the network have equal slopes. -/
theorem slopesFrom_congr {w1 w1' : FVec Ideal ⟨2, ![64, 1]⟩ .f32} {b1 b1' : FVec Ideal ⟨1, ![64]⟩ .f32} {w2 w2' : FVec Ideal ⟨2, ![64, 64]⟩ .f32}
    {b2 b2' : FVec Ideal ⟨1, ![64]⟩ .f32} {w3 w3' : FVec Ideal ⟨2, ![1, 64]⟩ .f32} {b3 b3' : FVec Ideal ⟨1, ![1]⟩ .f32}
    (h1 : w1 = w1') (h2 : b1 = b1') (h3 : w2 = w2') (h4 : b2 = b2') (h5 : w3 = w3') (h6 : b3 = b3') :
    slopesFrom w1 b1 w2 b2 w3 b3 = slopesFrom w1' b1' w2' b2' w3' b3' := by
  subst h1 h2 h3 h4 h5 h6
  rfl

/-- The value claim. -/
theorem algebraic : Cert.algebraic_KernelIdeal_ReferenceIdeal_pre_finite := by
  intro m g m' g' hp hargs
  have hz := fun c n => (pre_real m hp c n).1
  have ha := fun c => (pre_real m hp c 0).2
  refine ⟨Cert.KernelIdeal.Hand.res m, Cert.KernelIdeal.Hand.run m g hz ha, ?_⟩
  refine (θ_run Cert.ReferenceIdeal.defs _ _).mono (fun _ h c => ⟨(h c).1.trans ?_, (h c).2⟩) (Cert.ReferenceIdeal.Value.run (F := Ideal) m' g')
  obtain ⟨e0, e1, e2, e3, e4, e5, e6, e7, e8⟩ := hargs c
  have hz' : ∀ n : Fin 8388608, launchContents m' c (Proc.devRef .tc Cert.ReferenceIdeal.main_arg0) (ix2 n 0)
      = (Cert.KernelIdeal.Hand.sampleOf m c n : EReal) := fun n => by
    refine (congrFun e0 (ix2 n 0)).trans ?_
    obtain ⟨r, hr⟩ := hz c n
    have e : (⟨n.val % 8388608, Nat.mod_lt _ (by decide)⟩ : Fin 8388608) = n := Fin.ext (Nat.mod_eq_of_lt n.isLt)
    unfold Cert.KernelIdeal.Hand.sampleOf
    rw [e]
    exact hr.trans (congrArg Real.toEReal ((congrArg EReal.toReal hr).trans (EReal.toReal_coe r)).symm)
  have ha' : launchContents m' c (Proc.devRef .tc Cert.ReferenceIdeal.main_arg7) ix0 = Cert.KernelIdeal.Hand.rawOf m c := congrFun e7 ix0
  have hs : Cert.ReferenceIdeal.Hand.slopesOf (launchContents m' c) = Cert.KernelIdeal.Hand.slopesOf m c :=
    slopesFrom_congr e1 e2 e3 e4 e5 e6
  funext y
  have hy : y = ix2 (y 0) 0 := by
    funext a
    fin_cases a
    · rfl
    · exact Subsingleton.elim (α := Fin 1) _ _
  rw [hy]
  have r := Cert.ReferenceIdeal.Hand.out_at (launchContents m' c) (fun n => sample (Cert.ReferenceIdeal.Hand.slopesOf (launchContents m' c)) (Cert.KernelIdeal.Hand.sampleOf m c n))
    (Cert.ReferenceIdeal.Hand.sample_at (launchContents m' c) hz') (ha c) ha' (y 0)
  rw [hs] at r
  exact r.trans (congrArg (fun b => result (fun n => sample (Cert.KernelIdeal.Hand.slopesOf m c) (Cert.KernelIdeal.Hand.sampleOf m c n))
    (Cert.KernelIdeal.Hand.rawOf m c) b (y 0).val) (congrFun e8 ix0))

end Cert.ValueClaim
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.ValueClaim.facts,
  Cert.Frames.frame_p, Cert.Frames.frame_pi, Cert.Frames.frame_pi_pre, Cert.Frames.frame_ri, Cert.Frames.frame_ri_pre,
  Cert.Frames.preserves, Cert.ValueClaim.algebraic⟩

end Cert.Proof

end
